-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![16384]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![2048, 1024]⟩ ⟨2, ![2048, 16384]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024 : Shape := ⟨1, ![1024]⟩
abbrev S1x1024 : Shape := ⟨2, ![1, 1024]⟩
abbrev S16x16x128 : Shape := ⟨3, ![16, 16, 128]⟩
abbrev S16 : Shape := ⟨1, ![16]⟩
abbrev S_ : Shape := ⟨0, ![]⟩
abbrev S16x128x1024 : Shape := ⟨3, ![16, 128, 1024]⟩
abbrev S16x128 : Shape := ⟨2, ![16, 128]⟩
abbrev S1x16x128 : Shape := ⟨3, ![1, 16, 128]⟩
abbrev S1 : Shape := ⟨1, ![1]⟩
abbrev S1x1x1024 : Shape := ⟨3, ![1, 1, 1024]⟩
abbrev S16x128x1 : Shape := ⟨3, ![16, 128, 1]⟩

abbrev nBuf : Space → Nat
  | .hbm => 4
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .f32⟩
  | .local _ .vmem, ⟨0, _⟩ => ⟨S2048x1024, .f32⟩
  | .local _ .vmem, ⟨1, _⟩ => ⟨S1x1024, .f32⟩
  | .local _ .vmem, ⟨2, _⟩ => ⟨S2048x1024, .f32⟩
  | .local _ .vmem, ⟨3, _⟩ => ⟨S16x16x128, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_65 : BitVec 32 := 1#32
  let v73 : BitVec 32 := Scalar.addi v2 c1_i32_65
  let c16_i32_66 : BitVec 32 := 16#32
  let v74 : BitVec 32 := Scalar.remsi v73 c16_i32_66
  let c1_i32_71 : BitVec 32 := 1#32
  let v75 : BitVec 32 := Scalar.muli v74 c1_i32_71
  let v76 : BitVec 32 := Scalar.addi c0_i32_72 v75
  v76.toNat
def k0_dev17 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_77 : BitVec 32 := 2#32
  let v85 : BitVec 32 := Scalar.addi v2 c2_i32_77
  let c16_i32_78 : BitVec 32 := 16#32
  let v86 : BitVec 32 := Scalar.remsi v85 c16_i32_78
  let c1_i32_83 : BitVec 32 := 1#32
  let v87 : BitVec 32 := Scalar.muli v86 c1_i32_83
  let v88 : BitVec 32 := Scalar.addi c0_i32_84 v87
  v88.toNat
def k0_dev18 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_89 : BitVec 32 := 3#32
  let v97 : BitVec 32 := Scalar.addi v2 c3_i32_89
  let c16_i32_90 : BitVec 32 := 16#32
  let v98 : BitVec 32 := Scalar.remsi v97 c16_i32_90
  let c1_i32_95 : BitVec 32 := 1#32
  let v99 : BitVec 32 := Scalar.muli v98 c1_i32_95
  let v100 : BitVec 32 := Scalar.addi c0_i32_96 v99
  v100.toNat
def k0_dev19 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_101 : BitVec 32 := 4#32
  let v109 : BitVec 32 := Scalar.addi v2 c4_i32_101
  let c16_i32_102 : BitVec 32 := 16#32
  let v110 : BitVec 32 := Scalar.remsi v109 c16_i32_102
  let c1_i32_107 : BitVec 32 := 1#32
  let v111 : BitVec 32 := Scalar.muli v110 c1_i32_107
  let v112 : BitVec 32 := Scalar.addi c0_i32_108 v111
  v112.toNat
def k0_dev20 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_113 : BitVec 32 := 5#32
  let v121 : BitVec 32 := Scalar.addi v2 c5_i32_113
  let c16_i32_114 : BitVec 32 := 16#32
  let v122 : BitVec 32 := Scalar.remsi v121 c16_i32_114
  let c1_i32_119 : BitVec 32 := 1#32
  let v123 : BitVec 32 := Scalar.muli v122 c1_i32_119
  let v124 : BitVec 32 := Scalar.addi c0_i32_120 v123
  v124.toNat
def k0_dev21 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_125 : BitVec 32 := 6#32
  let v133 : BitVec 32 := Scalar.addi v2 c6_i32_125
  let c16_i32_126 : BitVec 32 := 16#32
  let v134 : BitVec 32 := Scalar.remsi v133 c16_i32_126
  let c1_i32_131 : BitVec 32 := 1#32
  let v135 : BitVec 32 := Scalar.muli v134 c1_i32_131
  let v136 : BitVec 32 := Scalar.addi c0_i32_132 v135
  v136.toNat
def k0_dev22 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_137 : BitVec 32 := 7#32
  let v145 : BitVec 32 := Scalar.addi v2 c7_i32_137
  let c16_i32_138 : BitVec 32 := 16#32
  let v146 : BitVec 32 := Scalar.remsi v145 c16_i32_138
  let c1_i32_143 : BitVec 32 := 1#32
  let v147 : BitVec 32 := Scalar.muli v146 c1_i32_143
  let v148 : BitVec 32 := Scalar.addi c0_i32_144 v147
  v148.toNat
def k0_dev23 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_149 : BitVec 32 := 8#32
  let v157 : BitVec 32 := Scalar.addi v2 c8_i32_149
  let c16_i32_150 : BitVec 32 := 16#32
  let v158 : BitVec 32 := Scalar.remsi v157 c16_i32_150
  let c1_i32_155 : BitVec 32 := 1#32
  let v159 : BitVec 32 := Scalar.muli v158 c1_i32_155
  let v160 : BitVec 32 := Scalar.addi c0_i32_156 v159
  v160.toNat
def k0_dev24 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_161 : BitVec 32 := 9#32
  let v169 : BitVec 32 := Scalar.addi v2 c9_i32_161
  let c16_i32_162 : BitVec 32 := 16#32
  let v170 : BitVec 32 := Scalar.remsi v169 c16_i32_162
  let c1_i32_167 : BitVec 32 := 1#32
  let v171 : BitVec 32 := Scalar.muli v170 c1_i32_167
  let v172 : BitVec 32 := Scalar.addi c0_i32_168 v171
  v172.toNat
def k0_dev25 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_173 : BitVec 32 := 10#32
  let v181 : BitVec 32 := Scalar.addi v2 c10_i32_173
  let c16_i32_174 : BitVec 32 := 16#32
  let v182 : BitVec 32 := Scalar.remsi v181 c16_i32_174
  let c1_i32_179 : BitVec 32 := 1#32
  let v183 : BitVec 32 := Scalar.muli v182 c1_i32_179
  let v184 : BitVec 32 := Scalar.addi c0_i32_180 v183
  v184.toNat
def k0_dev26 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_185 : BitVec 32 := 11#32
  let v193 : BitVec 32 := Scalar.addi v2 c11_i32_185
  let c16_i32_186 : BitVec 32 := 16#32
  let v194 : BitVec 32 := Scalar.remsi v193 c16_i32_186
  let c1_i32_191 : BitVec 32 := 1#32
  let v195 : BitVec 32 := Scalar.muli v194 c1_i32_191
  let v196 : BitVec 32 := Scalar.addi c0_i32_192 v195
  v196.toNat
def k0_dev27 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_197 : BitVec 32 := 12#32
  let v205 : BitVec 32 := Scalar.addi v2 c12_i32_197
  let c16_i32_198 : BitVec 32 := 16#32
  let v206 : BitVec 32 := Scalar.remsi v205 c16_i32_198
  let c1_i32_203 : BitVec 32 := 1#32
  let v207 : BitVec 32 := Scalar.muli v206 c1_i32_203
  let v208 : BitVec 32 := Scalar.addi c0_i32_204 v207
  v208.toNat
def k0_dev28 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_209 : BitVec 32 := 13#32
  let v217 : BitVec 32 := Scalar.addi v2 c13_i32_209
  let c16_i32_210 : BitVec 32 := 16#32
  let v218 : BitVec 32 := Scalar.remsi v217 c16_i32_210
  let c1_i32_215 : BitVec 32 := 1#32
  let v219 : BitVec 32 := Scalar.muli v218 c1_i32_215
  let v220 : BitVec 32 := Scalar.addi c0_i32_216 v219
  v220.toNat
def k0_dev29 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_221 : BitVec 32 := 14#32
  let v229 : BitVec 32 := Scalar.addi v2 c14_i32_221
  let c16_i32_222 : BitVec 32 := 16#32
  let v230 : BitVec 32 := Scalar.remsi v229 c16_i32_222
  let c1_i32_227 : BitVec 32 := 1#32
  let v231 : BitVec 32 := Scalar.muli v230 c1_i32_227
  let v232 : BitVec 32 := Scalar.addi c0_i32_228 v231
  v232.toNat
def k0_dev30 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_233 : BitVec 32 := 15#32
  let v241 : BitVec 32 := Scalar.addi v2 c15_i32_233
  let c16_i32_234 : BitVec 32 := 16#32
  let v242 : BitVec 32 := Scalar.remsi v241 c16_i32_234
  let c1_i32_239 : BitVec 32 := 1#32
  let v243 : BitVec 32 := Scalar.muli v242 c1_i32_239
  let v244 : BitVec 32 := Scalar.addi c0_i32_240 v243
  v244.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x16384 : Shape := ⟨2, ![2048, 16384]⟩
abbrev S16384 : Shape := ⟨1, ![16384]⟩
abbrev S_ : Shape := ⟨0, ![]⟩
abbrev S2048 : Shape := ⟨1, ![2048]⟩
abbrev S2048x1 : Shape := ⟨2, ![2048, 1]⟩
abbrev S1x16384 : Shape := ⟨2, ![1, 16384]⟩

abbrev nBuf : Space → Nat
  | .hbm => 18
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S16384, .f32⟩
  | .hbm, ⟨2, _⟩ => ⟨S2048x16384, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S1x16384, .f32⟩
  | .hbm, ⟨14, _⟩ => ⟨S2048x16384, .f32⟩
  | .hbm, ⟨15, _⟩ => ⟨S2048x16384, .f32⟩
  | .hbm, ⟨16, _⟩ => ⟨S2048x16384, .f32⟩
  | .hbm, ⟨17, _⟩ => ⟨S2048x16384, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Program.lean ====
/-
  The kernel's body as four loops.

  The printed body repeats the same step for each of the fifteen other devices: a signal, a copy, a wait for the copy
  that arrives, a wait for the copy that was sent. Here the body is written as loops over the list of the fifteen
  distances, and the printed body is shown to be that program.
-/
module

public import proofs.«01_k».proof.Proof.Gen.KernelIdeal.Skeleton
public import proofs.«01_k».proof.Proof.Gen.KernelIdeal.Launch

@[expose] public section

set_option maxRecDepth 16384

noncomputable section

namespace Cert.Norm

open Idealize.ShloMosaic Idealize.ShloMosaic.TcCoe Idealize.SL.Sem
open Cert.KernelIdeal Cert.KernelIdeal.Gen

variable {F : FTy → Type} [FloatOps F]

/-- The distances to the other devices. -/
def offs : List (Fin 16) := [1, 2, 3, 4, 5, 6, 7, 8, 9, 10, 11, 12, 13, 14, 15]

/-- Slot `o` lies inside the communication buffer. -/
theorem slot_inb (o : Fin 16) : ∀ a, (![o.val, 0, 0] : Fin 3 → ℕ) a + S1x16x128.size a ≤ S16x16x128.size a := by
  revert o; decide
/-- Semaphore `o` lies inside an array of sixteen. -/
theorem sem_inb (o : Fin 16) : ∀ a, (![o.val] : Fin 1 → ℕ) a + S1.size a ≤ S16.size a := by revert o; decide
/-- A slot of the buffer is a whole number of words. -/
theorem slot_words (o : Fin 16) :
    (Rect.unit (s := S16x16x128) ![o.val, 0, 0] S1x16x128.size (slot_inb o)).WholeWords (EltTy.packing .bf16) := by
  fin_cases o
  exacts [wordsbf16_S16x16x128_S1x16x128_0_0_0, wordsbf16_S16x16x128_S1x16x128_1_0_0, wordsbf16_S16x16x128_S1x16x128_2_0_0,
    wordsbf16_S16x16x128_S1x16x128_3_0_0, wordsbf16_S16x16x128_S1x16x128_4_0_0, wordsbf16_S16x16x128_S1x16x128_5_0_0,
    wordsbf16_S16x16x128_S1x16x128_6_0_0, wordsbf16_S16x16x128_S1x16x128_7_0_0, wordsbf16_S16x16x128_S1x16x128_8_0_0,
    wordsbf16_S16x16x128_S1x16x128_9_0_0, wordsbf16_S16x16x128_S1x16x128_10_0_0, wordsbf16_S16x16x128_S1x16x128_11_0_0,
    wordsbf16_S16x16x128_S1x16x128_12_0_0, wordsbf16_S16x16x128_S1x16x128_13_0_0, wordsbf16_S16x16x128_S1x16x128_14_0_0,
    wordsbf16_S16x16x128_S1x16x128_15_0_0]

/-- The communication buffer. -/
abbrev commM : Memref sig .tc .vmem S16x16x128 .bf16 := Memref.whole cc0_scratch0
/-- The rectangle of slot `o`. -/
abbrev slotR (o : Fin 16) : Rect S16x16x128 := Rect.unit (s := S16x16x128) ![o.val, 0, 0] S1x16x128.size (slot_inb o)
/-- Slot `o` of the communication buffer, as the copies name it. -/
abbrev slotM (o : Fin 16) : Memref sig .tc .vmem S16x128 .bf16 :=
  (commM.slice (slotR o) (fun _ => rfl)).squeeze S16x128 squeezes_S1x16x128_S16x128
/-- The semaphore that counts what is sent over distance `o`. -/
abbrev sendS (o : Fin 16) : DmaSem sig := ((cc0_scratch1.slice (Rect.unit (s := S16) ![o.val] S1.size (sem_inb o))).squeeze S_ squeezes_S1_S_).sem
/-- The semaphore that counts what arrives over distance `o`. -/
abbrev recvS (o : Fin 16) : DmaSem sig := ((cc0_scratch2.slice (Rect.unit (s := S16) ![o.val] S1.size (sem_inb o))).squeeze S_ squeezes_S1_S_).sem
/-- The barrier semaphore. -/
abbrev barS : Sem sig := (SemArray.scalar (sig.barrier 0 rfl) : Sems sig S_).sem

/-- A slot's ends are whole words, as a copy needs. -/
theorem slot_exact (o : Fin 16) : (slotM o).view.WordExact := ((Memref.isWhole_whole cc0_scratch0).wordExact_slice rfl _ (slot_words o)).reshape _ _

/-- Programs of the kernel. -/
local notation "ℙ" => Prog (TpuEff nD τ sig (Elt F) Λ₀ Proc.tc) PUnit

/-- One signal to the barrier of each device of the list, then `k`. -/
def signals (k : ℙ) : List (Dev nD) → ℙ
  | [] => k
  | d :: ds => .op (.semSignal (d, .tc) barS (1#32 : BitVec 32).toInt) fun _ => signals k ds
/-- A copy of slot 0 into slot `o` of device `d` for each pair `(d, o)` of the list, then `k`. -/
def copies (k : ℙ) : List (Dev nD × Fin 16) → ℙ
  | [] => k
  | p :: ps => .op (.enqueueDma (slotM 0) (.remote (Dev.tc p.1) (slotM p.2) (.dma (sendS p.2))) (.dma (recvS p.2)) (slot_exact 0) (slot_exact p.2)
      ⟨⟨rfl, Or.inl rfl⟩, trivial⟩) fun _ => copies k ps
/-- A wait for the arrival in each slot of the list, then `k`. -/
def arrivals (k : ℙ) : List (Fin 16) → ℙ
  | [] => k
  | o :: os => .op (.waitDma2 (recvS o) (slotM 0) (slotM o) (slot_exact 0) (slot_exact o)) fun _ => arrivals k os
/-- A wait for the end of each copy of the list, then `k`. -/
def departures (k : ℙ) : List (Fin 16) → ℙ
  | [] => k
  | o :: os => .op (.waitDma2 (sendS o) (slotM o) (slotM 0) (slot_exact o) (slot_exact 0)) fun _ => departures k os

section Body

variable (a0 : Memref sig .tc .vmem S2048x1024 .f32) (a1 : Memref sig .tc .vmem S1x1024 .f32) (a2 : Memref sig .tc .vmem S2048x1024 .f32)

/-- The body after the last arrival: the sums are read, the result is computed and stored, the copies sent are waited for. -/
def finish (v66 : FVec F S16x128x1024 .f32) (v253 : Vec F S1x1024 .f32) (os : List (Fin 16)) : ℙ :=
  .op (.load commM (Rect.unit (s := S16x16x128) ![0, 0, 0] S16x16x128.size inb_S16x16x128_S16x16x128_0_0_0).toLoadRect (View.loadsAt_vmem h_S16x16x128)) fun v378 =>
  .op (.load a2 (Rect.unit (s := S2048x1024) ![0, 0] S2048x1024.size inb_S2048x1024_S2048x1024_0_0).toLoadRect (View.loadsAt_vmem h_S2048x1024)) fun _ =>
  .op (.store a2 (Rect.unit (s := S2048x1024) ![0, 0] S2048x1024.size inb_S2048x1024_S2048x1024_0_0) (k0_pay4 (k0_pay3 v66 v253) v378) Finset.univ
    (View.stores_vmem_bits_univ h_S2048x1024 rfl) (.inl rfl)) fun _ =>
  departures (.ret ⟨⟩) os

/-- The body after the signals: the device's own sums are stored, the barrier is passed, the sums are sent around. -/
def exchange (ps : List (Dev nD × Fin 16)) (os : List (Fin 16)) : ℙ :=
  .op (.load a0 (Rect.unit (s := S2048x1024) ![0, 0] S2048x1024.size inb_S2048x1024_S2048x1024_0_0).toLoadRect (View.loadsAt_vmem h_S2048x1024)) fun v64 =>
  .op (.load commM (slotR 0).toLoadRect (View.loadsAt_vmem h_S1x16x128)) fun _ =>
  .op (.store commM (slotR 0) (k0_pay2 v64) Finset.univ
    (View.stores_vmem h_S1x16x128 ((Memref.isWhole_whole cc0_scratch0).storeExact_slice rfl _ packedbf16_S16x16x128_S1x16x128_0_0_0) (fun _ => rfl)) (.inl rfl)) fun _ =>
  .op (.semWait barS (15#32 : BitVec 32).toInt) fun _ =>
  copies
    (.op (.load a1 (Rect.unit (s := S1x1024) ![0, 0] S1x1024.size inb_S1x1024_S1x1024_0_0).toLoadRect (View.loadsAt_vmem h_S1x1024)) fun v253 =>
      arrivals (finish a2 (k0_pay1 v64) v253 os) os) ps

/-- The devices the fifteen signals go to, as the kernel computes them. -/
def sigDevs (c : Dev nD) : List (Dev nD) :=
  [⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩,
    ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩,
    ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩]
/-- The devices and slots the fifteen copies go to, as the kernel computes them. -/
def copyDevs (c : Dev nD) : List (Dev nD × Fin 16) :=
  [(⟨k0_dev16 c, k0_dev16_lt c⟩, 1), (⟨k0_dev17 c, k0_dev17_lt c⟩, 2), (⟨k0_dev18 c, k0_dev18_lt c⟩, 3), (⟨k0_dev19 c, k0_dev19_lt c⟩, 4),
    (⟨k0_dev20 c, k0_dev20_lt c⟩, 5), (⟨k0_dev21 c, k0_dev21_lt c⟩, 6), (⟨k0_dev22 c, k0_dev22_lt c⟩, 7), (⟨k0_dev23 c, k0_dev23_lt c⟩, 8),
    (⟨k0_dev24 c, k0_dev24_lt c⟩, 9), (⟨k0_dev25 c, k0_dev25_lt c⟩, 10), (⟨k0_dev26 c, k0_dev26_lt c⟩, 11), (⟨k0_dev27 c, k0_dev27_lt c⟩, 12),
    (⟨k0_dev28 c, k0_dev28_lt c⟩, 13), (⟨k0_dev29 c, k0_dev29_lt c⟩, 14), (⟨k0_dev30 c, k0_dev30_lt c⟩, 15)]

/-- The signals go to the devices at the fifteen distances. -/
theorem sigDevs_eq (c : Dev nD) : sigDevs c = offs.map fun o => c + o := by
  unfold sigDevs offs
  simp only [List.map, k0_dev1_eq, k0_dev2_eq, k0_dev3_eq, k0_dev4_eq, k0_dev5_eq, k0_dev6_eq, k0_dev7_eq, k0_dev8_eq, k0_dev9_eq, k0_dev10_eq,
    k0_dev11_eq, k0_dev12_eq, k0_dev13_eq, k0_dev14_eq, k0_dev15_eq]
  rfl
/-- The copies go to the devices at the fifteen distances, each into the slot of its distance. -/
theorem copyDevs_eq (c : Dev nD) : copyDevs c = offs.map fun o => (c + o, o) := by
  unfold copyDevs offs
  simp only [List.map, k0_dev16_eq, k0_dev17_eq, k0_dev18_eq, k0_dev19_eq, k0_dev20_eq, k0_dev21_eq, k0_dev22_eq, k0_dev23_eq, k0_dev24_eq, k0_dev25_eq,
    k0_dev26_eq, k0_dev27_eq, k0_dev28_eq, k0_dev29_eq, k0_dev30_eq]
  rfl

/-- The printed body is the four loops. -/
theorem body_eq (h0 : a0.IsWhole) (h1 : a1.IsWhole) (h2 : a2.IsWhole) :
    cc0_body (F := F) a0 h0 a1 h1 a2 h2 commM (Memref.isWhole_whole _) cc0_scratch1 cc0_scratch2
      = .op .deviceId fun c => signals (exchange a0 a1 a2 (offs.map fun o => (c + o, o)) offs) (offs.map fun o => c + o) := by
  have h : cc0_body (F := F) a0 h0 a1 h1 a2 h2 commM (Memref.isWhole_whole _) cc0_scratch1 cc0_scratch2
      = .op .deviceId fun c => signals (exchange a0 a1 a2 (copyDevs c) offs) (sigDevs c) := by
    rw [cc0_body_eq_skeleton]; rfl
  rw [h]
  congr 1; funext c; rw [copyDevs_eq, sigDevs_eq]

end Body

end Cert.Norm

end
-- ==== Proof.Slots.lean ====
/-
  The communication buffer slot by slot: which elements a slot holds, what the buffer holds once every sum has arrived,
  and that a copy or the device's own store writes exactly that.
-/
module

public import proofs.«01_k».proof.Proof.Program

@[expose] public section

set_option maxRecDepth 16384

noncomputable section

namespace Cert.Norm

open Idealize.ShloMosaic Idealize.ShloMosaic.TcCoe Idealize.SL.Sem
open Cert.KernelIdeal Cert.KernelIdeal.Gen

variable {F : FTy → Type} [FloatOps F]

/-- The elements of slot `o`. -/
abbrev slotSet (o : Fin 16) : Finset S16x16x128.Idx := (slotM o).view.set

/-- The elements of slot `o` are those of its rectangle. -/
theorem slotSet_eq (o : Fin 16) : slotSet o = (slotR o).set := by
  exact (View.set_reshape (v := (commM.slice (slotR o) (fun _ => rfl)).view) _).trans (View.set_slice_whole cc0_scratch0 (slotR o))

/-- The slot an element lies in. -/
def slotOf (i : S16x16x128.Idx) : Fin 16 := i 0

/-- An element is in slot `o` when its first coordinate is `o`. -/
theorem mem_slotSet (o : Fin 16) (i : S16x16x128.Idx) : i ∈ slotSet o ↔ slotOf i = o := by
  rw [slotSet_eq, Rect.mem_set_unit]
  constructor
  · intro h
    have h0 := h 0
    have h1 : o.val ≤ (i 0).val ∧ (i 0).val < o.val + 1 := h0
    exact Fin.ext (show (i 0).val = o.val by omega)
  · rintro h a
    fin_cases a
    · subst h; exact ⟨le_refl _, Nat.lt_succ_self _⟩
    · exact ⟨Nat.zero_le _, by have := (i 1).isLt; simpa using this⟩
    · exact ⟨Nat.zero_le _, by have := (i 2).isLt; simpa using this⟩

/-- Two slots share no element. -/
theorem slot_disjoint (o o' : Fin 16) (h : o ≠ o') : Disjoint (slotSet o) (slotSet o') := by
  rw [Finset.disjoint_left]
  intro i hi hi'
  exact h (((mem_slotSet o i).mp hi).symm.trans ((mem_slotSet o' i).mp hi'))

/-- The slots make up the buffer. -/
theorem slot_cover : Finset.univ.biUnion slotSet = Finset.univ := by
  ext i
  simp only [Finset.mem_biUnion, Finset.mem_univ, true_and, iff_true]
  exact ⟨slotOf i, (mem_slotSet _ i).mpr rfl⟩

/-- The place of an element within its slot. -/
def inSlot (i : S16x16x128.Idx) : S1x16x128.Idx
  | 0 => (0 : Fin 1)
  | 1 => i 1
  | 2 => i 2

/-- The first coordinate of slot `o`'s elements. -/
theorem slot_emb_zero (o : Fin 16) (y : (slotR o).shape.Idx) : slotOf ((slotR o).emb y) = o := by
  apply Fin.ext
  have h0 : (y 0).val < 1 := (y 0).isLt
  show ((slotR o).emb y 0).val = _
  rw [Rect.emb_apply]
  simp
  omega

/-- The place within its slot of slot `o`'s element `y` is `y`. -/
theorem inSlot_emb (o : Fin 16) (y : (slotR o).shape.Idx) : inSlot ((slotR o).emb y) = y := by
  funext a
  apply Fin.ext
  have h0 : (y 0).val < 1 := (y 0).isLt
  fin_cases a
  · exact (Nat.lt_one_iff.mp h0).symm
  · show ((slotR o).emb y 1).val = (y 1).val; rw [Rect.emb_apply]; simp
  · show ((slotR o).emb y 2).val = (y 2).val; rw [Rect.emb_apply]; simp

/-- The device at no distance is the device itself. -/
theorem dev_sub_zero (c : Dev nD) : c - (0 : Fin 16) = c := by revert c; decide
/-- Going a distance and back. -/
theorem dev_add_sub (c : Dev nD) (o : Fin 16) : c + o - o = c := by revert c o; decide
/-- Going back a distance and forth again. -/
theorem dev_sub_add (c : Dev nD) (o : Fin 16) : c - o + o = c := by revert c o; decide
/-- Going forth by the opposite distance. -/
theorem dev_add_neg (c : Dev nD) (o : Fin 16) : c + o + -o = c := by revert c o; decide

/-- What device `c`'s buffer holds after the exchange, when device `d` holds the rows `X d`: in slot `o` the sums of
    squares of the device at distance `o` before `c`. -/
def commFull (X : Dev nD → Vec F S2048x1024 .f32) (c : Dev nD) : S16x16x128.Idx → Elt F .bf16 :=
  fun i => k0_pay2 (X (c - slotOf i)) (inSlot i)

/-- Device `c`'s own store leaves slot 0 as after the exchange. -/
theorem store_slot (X : Dev nD → Vec F S2048x1024 .f32) (c : Dev nD) (f : S16x16x128.Idx → Elt F .bf16) :
    ∀ i ∈ slotSet 0, (commM.access (slotR 0)).write (Elt F) f (k0_pay2 (X c)) Finset.univ i = commFull X c i := by
  intro i hi
  obtain ⟨x, -, rfl⟩ := Finset.mem_map.mp hi
  have hx : (slotM 0).view.emb x = (slotR 0).emb (Shape.reshapeEquiv _ x) := rfl
  rw [hx]
  generalize Shape.reshapeEquiv _ x = y
  refine (View.write_emb_of_mem (v := commM.access (slotR 0)) f (k0_pay2 (X c)) (Finset.mem_univ y)).trans ?_
  show k0_pay2 (X c) y = k0_pay2 (X (c - slotOf ((slotR 0).emb y))) (inSlot ((slotR 0).emb y))
  rw [inSlot_emb, slot_emb_zero, dev_sub_zero]

/-- A copy from device `c` over distance `o` leaves slot `o` of the receiver as after the exchange. -/
theorem copy_slot (X : Dev nD → Vec F S2048x1024 .f32) (c : Dev nD) (o : Fin 16) (f : S16x16x128.Idx → Elt F .bf16) :
    ∀ i ∈ slotSet o, (slotM o).view.write (Elt F) f ((slotM 0).view.read (Elt F) (commFull X c)) Finset.univ i = commFull X (c + o) i := by
  intro i hi
  obtain ⟨x, -, rfl⟩ := Finset.mem_map.mp hi
  refine (View.write_emb_of_mem (v := (slotM o).view) f _ (Finset.mem_univ x)).trans ?_
  show commFull X c ((slotR 0).emb (Shape.reshapeEquiv _ x)) = commFull X (c + o) ((slotR o).emb (Shape.reshapeEquiv _ x))
  unfold commFull
  rw [inSlot_emb, inSlot_emb, slot_emb_zero, slot_emb_zero, dev_sub_zero, dev_add_sub]

end Cert.Norm

end
-- ==== Proof.Protocol.lean ====
/-
  The protocol of the exchange: what is paid to each semaphore, in which amount and with what, what a device owes when it
  starts, and the order in which it may wait.

  A device has a barrier semaphore, and for each distance a semaphore for what it sends and one for what arrives.
  * At the barrier of device `d`, the device at distance `j` after `d` pays one unit, and with it hands over its slot `j`:
    the one `d` will write.
  * At the arrival semaphore of device `d` for distance `o`, the device at distance `o` before `d` pays one slot's worth
    by its copy, and with it the slot comes back holding the sums.
  * At the sending semaphore of device `d` for distance `o`, the same copy pays one slot's worth, and with it the share of
    slot 0 the copy read comes back.
-/
module

public import proofs.«01_k».proof.Proof.Slots
public import Idealize.ShloMosaic.Lib.Pipeline.Regions
public import Idealize.ShloMosaic.Lib.Pipeline.Kit
public import Idealize.ShloMosaic.Lib.Pipeline.RegionTalk
public import Idealize.ShloMosaic.Lib.Pipeline.BigSepL
public import Idealize.ShloMosaic.Lib.Transfers
public import Idealize.ShloMosaic.Lib.Rounds
public import Idealize.ShloMosaic.Lib.Tactic
public import Idealize.ShloMosaic.Harness.Basic

@[expose] public section

set_option maxRecDepth 16384

noncomputable section

namespace Cert.Norm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)
open Cert.KernelIdeal Cert.KernelIdeal.Gen

variable {F : FTy → Type} [FloatOps F]

/-- The ghost state: the pipeline's and the protocol's, whose duties are numbered by distances. -/
abbrev UU : Type := UR sig nD τ × URounds (GSem nD τ sig) (Fin 16)

local notation "𝕄" => MT nD τ sig Unit (Elt F) ℕ UU ℕ

abbrev EP : Emb (UR sig nD τ) (MT nD τ sig Unit (Elt F) ℕ UU ℕ) := embL
abbrev ER : Emb (URounds (GSem nD τ sig) (Fin 16)) (MT nD τ sig Unit (Elt F) ℕ UU ℕ) := embR

variable (X : Dev nD → Vec F S2048x1024 .f32)

/-! ## Cells and holdings -/

/-- The barrier cell of device `c`. -/
abbrev barCell (c : Dev nD) : GSem nD τ sig := ((c : Thread nD τ), .reg barS)
/-- The cell that counts what device `c` sends over distance `o`. -/
abbrev sendCell (c : Dev nD) (o : Fin 16) : GSem nD τ sig := ((c : Thread nD τ), .dma (sendS o))
/-- The cell that counts what arrives at device `c` over distance `o`. -/
abbrev recvCell (c : Dev nD) (o : Fin 16) : GSem nD τ sig := ((c : Thread nD τ), .dma (recvS o))

/-- Device `c`'s slot `o` at share `q`, holding `f`. -/
abbrev slotPts (c : Dev nD) (o : Fin 16) (q : PosShare TreeShare) (f : S16x16x128.Idx → Elt F .bf16) : sProp 𝕄 :=
  (slotM o).view.loc (c : Thread nD τ) ↦[(slotM o).view.set]{q} f

/-- What one copy of a slot pays. -/
abbrev N : ℕ := (slotM 0).view.dmaCredit
theorem N_pos : 0 < N := View.dmaCredit_pos _ (by decide)
/-- Every slot pays the same. -/
theorem credit_eq (o : Fin 16) : (slotM o).view.dmaCredit = N := rfl

/-- The share of slot 0 that the copy over distance `o` reads. -/
abbrev tok (o : Fin 16) : PosShare TreeShare := shareTok fullShare 16 o
/-- The share of a slot that stays with the device while copies read the rest. -/
abbrev kept : PosShare TreeShare := shareDrop fullShare 16

/-! ## Which cell is which -/

/-- What a semaphore is for. -/
inductive Role
  | bar
  | send (o : Fin 16)
  | recv (o : Fin 16)
  | other

/-- A semaphore's purpose, by its place among the device's semaphores. -/
def role : SemLoc sig → Role
  | .reg s => if s = barS then .bar else .other
  | .dma s => if h : 3 ≤ s.val ∧ s.val < 19 then .send ⟨s.val - 3, by omega⟩
    else if h : 19 ≤ s.val ∧ s.val < 35 then .recv ⟨s.val - 19, by omega⟩ else .other

/-- The places of the sending semaphores. -/
theorem sendS_val (o : Fin 16) : (sendS o).val = 3 + o.val := by revert o; decide
/-- The places of the arrival semaphores. -/
theorem recvS_val (o : Fin 16) : (recvS o).val = 19 + o.val := by revert o; decide

theorem role_bar : role (.reg barS) = .bar := by unfold role; exact if_pos rfl
theorem role_send (o : Fin 16) : role (.dma (sendS o)) = .send o := by
  unfold role
  have h := sendS_val o
  have ho := o.isLt
  simp only
  rw [dif_pos ⟨by omega, by omega⟩]
  congr 1
  exact Fin.ext (by simp only [h]; omega)
theorem role_recv (o : Fin 16) : role (.dma (recvS o)) = .recv o := by
  unfold role
  have h := recvS_val o
  have ho := o.isLt
  simp only
  rw [dif_neg (fun h' => by omega), dif_pos ⟨by omega, by omega⟩]
  congr 1
  exact Fin.ext (by simp only [h]; omega)

/-! ## The schedule -/

/-- Paid to the barrier of device `d` from distance `j`: slot `j` of the device there, which is ready to receive. -/
def barPay (d : Dev nD) (j : Fin 16) : sProp 𝕄 := iprop((∃ f, slotPts (d + j) j fullShare f) ∗ reached ER (recvCell (d + j) j) 0)
/-- Paid at the end of a copy sent: the share of slot 0 it read. -/
def sendPay (d : Dev nD) (o : Fin 16) : sProp 𝕄 := slotPts d 0 (tok o) (commFull X d)
/-- Paid by a copy that arrives: the slot, holding the sums. -/
def recvPay (d : Dev nD) (o : Fin 16) : sProp 𝕄 := slotPts d o fullShare (commFull X d)

/-- Who pays a cell, by its purpose: every other device the barrier, one copy the semaphores of a distance that is not zero. -/
def dutiesOf : Role → Finset (Fin 16)
  | .bar => Finset.univ.erase 0
  | .send o => if o = 0 then ∅ else {0}
  | .recv o => if o = 0 then ∅ else {0}
  | .other => ∅

/-- What is paid with a duty, by the cell's purpose. -/
def payOf (d : Dev nD) (j : Fin 16) : Role → sProp 𝕄
  | .bar => barPay d j
  | .send o => sendPay X d o
  | .recv o => recvPay X d o
  | .other => iprop(emp)

/-- A unit at the barrier, a slot's worth elsewhere. -/
def amountOf : Role → ℕ
  | .bar => 1
  | _ => N

/-- The schedule: one round. -/
def sched : Rounds.Schedule (GSem nD τ sig) (Fin 16) 𝕄 where
  duties g r := if r = 0 ∧ g.1.2 = .tc then dutiesOf (role g.2) else ∅
  unitless _ := False
  amount g _ _ := amountOf (role g.2)
  payload g _ j := payOf X g.1.1 j (role g.2)
  amount_pos g _ _ _ := by
    unfold amountOf
    split
    · exact Nat.one_pos
    · exact N_pos

instance sched_storable (g : GSem nD τ sig) (r : ℕ) (d : Fin 16) : BI.Storable (upEmb : UEmb _ 𝕄) ((sched X).payload g r d) := by
  show BI.Storable upEmb (payOf X g.1.1 d (role g.2))
  unfold payOf barPay sendPay recvPay
  split <;> infer_instance

section Sched

variable (c : Dev nD)

theorem duties_bar : (sched X).duties (barCell c) 0 = Finset.univ.erase 0 := by
  dsimp only [sched]; rw [if_pos ⟨rfl, rfl⟩, role_bar]; rfl
theorem duties_send (o : Fin 16) (ho : o ≠ 0) : (sched X).duties (sendCell c o) 0 = {0} := by
  dsimp only [sched]; rw [if_pos ⟨rfl, rfl⟩, role_send]; exact if_neg ho
theorem duties_recv (o : Fin 16) (ho : o ≠ 0) : (sched X).duties (recvCell c o) 0 = {0} := by
  dsimp only [sched]; rw [if_pos ⟨rfl, rfl⟩, role_recv]; exact if_neg ho
theorem duties_send_zero : (sched X).duties (sendCell c 0) 0 = ∅ := by
  dsimp only [sched]; rw [if_pos ⟨rfl, rfl⟩, role_send]; rfl
theorem duties_recv_zero : (sched X).duties (recvCell c 0) 0 = ∅ := by
  dsimp only [sched]; rw [if_pos ⟨rfl, rfl⟩, role_recv]; rfl
/-- No duty after the first round. -/
theorem duties_later (g : GSem nD τ sig) : ∀ r, 1 ≤ r → (sched X).duties g r = ∅ :=
  fun r hr => by dsimp only [sched]; exact if_neg (fun h => by omega)

theorem amount_bar (j : Fin 16) : (sched X).amount (barCell c) 0 j = 1 := by dsimp only [sched]; rw [role_bar]; rfl
theorem amount_send (o j : Fin 16) : (sched X).amount (sendCell c o) 0 j = N := by dsimp only [sched]; rw [role_send]; rfl
theorem amount_recv (o j : Fin 16) : (sched X).amount (recvCell c o) 0 j = N := by dsimp only [sched]; rw [role_recv]; rfl

theorem expect_bar : (sched X).expect (barCell c) 0 = 15 := by
  unfold Schedule.expect Schedule.amountOf
  rw [duties_bar, Finset.sum_congr rfl fun j _ => amount_bar X c j]; rfl
theorem expect_send (o : Fin 16) (ho : o ≠ 0) : (sched X).expect (sendCell c o) 0 = N := by
  unfold Schedule.expect Schedule.amountOf; rw [duties_send X c o ho, Finset.sum_singleton, amount_send]
theorem expect_recv (o : Fin 16) (ho : o ≠ 0) : (sched X).expect (recvCell c o) 0 = N := by
  unfold Schedule.expect Schedule.amountOf; rw [duties_recv X c o ho, Finset.sum_singleton, amount_recv]

theorem payload_bar (j : Fin 16) : (sched X).payload (barCell c) 0 j = barPay c j := by dsimp only [sched]; rw [role_bar]; rfl
theorem payload_send (o j : Fin 16) : (sched X).payload (sendCell c o) 0 j = sendPay X c o := by dsimp only [sched]; rw [role_send]; rfl
theorem payload_recv (o j : Fin 16) : (sched X).payload (recvCell c o) 0 j = recvPay X c o := by dsimp only [sched]; rw [role_recv]; rfl

/-- What the barrier's wait takes. -/
theorem rest_bar : bigSep ((sched X).duties (barCell c) 0 \ ∅) (fun j => (sched X).payload (barCell c) 0 j)
    = bigSep (Finset.univ.erase 0) (barPay (F := F) c) := by
  rw [Finset.sdiff_empty, duties_bar]; exact bigSep_congr fun j _ => payload_bar X c j
/-- What the wait for a copy sent takes. -/
theorem rest_send (o : Fin 16) (ho : o ≠ 0) : bigSep ((sched X).duties (sendCell c o) 0 \ ∅) (fun j => (sched X).payload (sendCell c o) 0 j) = sendPay X c o := by
  rw [Finset.sdiff_empty, duties_send X c o ho, bigSep_singleton, payload_send]
/-- What the wait for an arrival takes. -/
theorem rest_recv (o : Fin 16) (ho : o ≠ 0) : bigSep ((sched X).duties (recvCell c o) 0 \ ∅) (fun j => (sched X).payload (recvCell c o) 0 j) = recvPay X c o := by
  rw [Finset.sdiff_empty, duties_recv X c o ho, bigSep_singleton, payload_recv]

end Sched

/-! ## What a device owes, and when it may wait -/

/-- The slots' worth owed to the devices at the distances of the list. -/
def owedRecv (c : Dev nD) : List (Fin 16) → CellTallies nD τ sig Unit
  | [] => 0
  | o :: os => owedRecv c os + tallyAt (recvCell (c + o) o) () N
/-- The barrier units owed to the devices at the distances of the list. -/
def owedBar (c : Dev nD) : List (Fin 16) → CellTallies nD τ sig Unit
  | [] => 0
  | o :: os => owedBar c os + tallyAt (barCell (c + o)) () 1

/-- What a device owes at launch: its fifteen copies and its fifteen signals. -/
def O₀ (c : Dev nD) : CellTallies nD τ sig Unit := owedRecv c offs + owedBar c offs

/-- The cells a device may wait at. -/
def L (g : GSem nD τ sig) : Finset Unit := if g.1.2 = .tc then {()} else ∅
/-- The order of waits: the barrier before the arrivals; the rest is never waited for while anything is owed. -/
def lv (g : GSem nD τ sig) (_ : Unit) : ℕ :=
  match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [role_bar]
theorem lv_recv (c : Dev nD) (o : Fin 16) (u : Unit) : lv (recvCell c o) u = 2 := by unfold lv; rw [role_recv]

/-- A sum is positive where a summand is. -/
theorem tally_pos {A : CellTallies nD τ sig Unit} {g' g : GSem nD τ sig} {n : ℕ} {u : Unit} (h : 0 < (A + tallyAt g' () n) g u) :
    0 < A g u ∨ g = g' := by
  rw [Pi.add_apply, Finsupp.add_apply] at h
  rcases Nat.add_pos_iff_pos_or_pos.mp h with h | h
  · exact .inl h
  · rw [tallyAt_apply] at h
    split at h
    · next hg => exact .inr hg.1
    · exact absurd h (Nat.lt_irrefl 0)

/-- What is owed for the copies is owed at arrival cells. -/
theorem owedRecv_pos (c : Dev nD) (g : GSem nD τ sig) (u : Unit) : ∀ os, 0 < owedRecv c os g u → ∃ d o, g = recvCell d o
  | [], h => absurd h (Nat.lt_irrefl 0)
  | o :: os, h => by
    rcases tally_pos h with h | h
    · exact owedRecv_pos c g u os h
    · exact ⟨_, _, h⟩
/-- What is owed for the signals is owed at barrier cells. -/
theorem owedBar_pos (c : Dev nD) (g : GSem nD τ sig) (u : Unit) : ∀ os, 0 < owedBar c os g u → ∃ d, g = barCell d
  | [], h => absurd h (Nat.lt_irrefl 0)
  | o :: os, h => by
    rcases tally_pos h with h | h
    · exact owedBar_pos c g u os h
    · exact ⟨_, h⟩

/-- A device may wait at its barrier while it owes its copies. -/
theorem mayWait_bar (c : Dev nD) : (levAts L lv : sProp 𝕄) ⊢ MayWait (c : Thread nD τ) (.reg barS) () (owedRecv c offs) :=
  MayOwe.of_cut (L := L) (lev := lv) 1 (fun p hp => by rw [Finset.mem_singleton.mp hp, L_tc]; exact Finset.mem_singleton_self _)
    (fun g u hg => by obtain ⟨d, o, rfl⟩ := owedRecv_pos c g u _ hg; rw [L_tc]; exact Finset.mem_singleton_self _)
    (fun p hp => by rw [Finset.mem_singleton.mp hp]; exact (lv_bar c ()).le)
    (fun g u hg => by obtain ⟨d, o, rfl⟩ := owedRecv_pos c g u _ hg; rw [lv_recv]; decide)

/-! ## The semaphores and the records every device may consult -/

/-- The kernel's own semaphores: for each distance, the one for what is sent and the one for what arrives. -/
abbrev osem : Fin 2 × Fin 16 → SemLoc sig
  | (0, o) => .dma (sendS o)
  | (1, o) => .dma (recvS o)

theorem osem_inj : Function.Injective osem := by decide +kernel
theorem osem_ne_bar : ∀ k, osem k ≠ .reg barS := by decide +kernel

def barEmb : Dev nD ↪ GSem nD τ sig := ⟨fun c => barCell c, fun _ _ h => congrArg (fun g : GSem nD τ sig => g.1.1) h⟩
def ownEmb : Dev nD × (Fin 2 × Fin 16) ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells. -/
abbrev barCells : Finset (GSem nD τ sig) := Finset.univ.map barEmb
/-- The cells of the kernel's own semaphores. -/
abbrev ownCells : Finset (GSem nD τ sig) := Finset.univ.map ownEmb

theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ ownCells : Finset (GSem nD τ sig)) :=
  Finset.mem_union_left _ (Finset.mem_map_of_mem barEmb (Finset.mem_univ c))
theorem own_mem (c : Dev nD) (k : Fin 2 × Fin 16) : ((c : Thread nD τ), osem k) ∈ (barCells ∪ ownCells : Finset (GSem nD τ sig)) :=
  Finset.mem_union_right _ (Finset.mem_map_of_mem ownEmb (Finset.mem_univ (c, k)))
theorem send_mem (c : Dev nD) (o : Fin 16) : sendCell c o ∈ (barCells ∪ ownCells : Finset (GSem nD τ sig)) := own_mem c (0, o)
theorem recv_mem (c : Dev nD) (o : Fin 16) : recvCell c o ∈ (barCells ∪ ownCells : Finset (GSem nD τ sig)) := own_mem c (1, o)

/-- Every cell follows the schedule, and every barrier is in its first round. -/
def records (κ : GSem nD τ sig → ℕ) : sProp 𝕄 :=
  iprop((bigSep (barCells ∪ ownCells) fun g => cellInv ER (sched X) (κ g) g) ∗ bigSep barCells fun g => reached ER g 0)

instance records_persistent (κ : GSem nD τ sig → ℕ) : BI.Persistent (records X κ) := by unfold records; infer_instance

/-- One cell's record. -/
theorem inv_at (κ : GSem nD τ sig → ℕ) {g : GSem nD τ sig} (hg : g ∈ (barCells ∪ ownCells : Finset (GSem nD τ sig))) :
    records X κ ⊢ cellInv ER (sched X) (κ g) g := by
  unfold records
  exact sep_elim_left.trans (show _ ⊢ _ from BI.bigSep_elim hg)

/-- A barrier is in its first round. -/
theorem reached_at (κ : GSem nD τ sig → ℕ) (c : Dev nD) : records X κ ⊢ reached ER (barCell c) 0 := by
  unfold records
  exact sep_elim_right.trans (show _ ⊢ _ from BI.bigSep_elim (Finset.mem_map_of_mem barEmb (Finset.mem_univ c)))

end Cert.Norm

end
-- ==== Proof.Loops.lean ====
/-
  The four loops of the kernel, each by recursion on the distances still to go: what a device gives to go through, what it
  has afterwards. The rest of the kernel is any program `k`, and the thread's postcondition any `Q`.
-/
module

public import proofs.«01_k».proof.Proof.Protocol

@[expose] public section

set_option maxRecDepth 16384

noncomputable section

namespace Cert.Norm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ
local notation "ℙ" => Prog (TpuEff nD τ sig (Elt F) Λ₀ Proc.tc) PUnit

variable (X : Dev nD → Vec F S2048x1024 .f32) (κ : GSem nD τ sig → ℕ)

abbrev 𝒱₀ : Variants := Variants.none

/-- What a device hands over to signal the barrier at distance `o`: the right to pay, and its own slot `-o`. -/
def toSignal (c : Dev nD) (o : Fin 16) : sProp 𝕄 :=
  iprop(dutyTok ER (barCell (c + o)) 0 (-o) ∗ barPay (c + o) (-o))

/-- What a device needs to copy over distance `o`: its share of slot 0, the slot it writes, and the rights to pay. -/
def toCopy (c : Dev nD) (o : Fin 16) : sProp 𝕄 :=
  iprop(slotPts c 0 (tok o) (commFull X c) ∗ barPay c o ∗ dutyTok ER (sendCell c o) 0 0 ∗ reached ER (sendCell c o) 0
    ∗ dutyTok ER (recvCell (c + o) o) 0 0)

/-- The signals, one by one. -/
theorem signals_run (c : Dev nD) (k : ℙ) (Q : PUnit → sProp 𝕄) (A : CellTallies nD τ sig Unit) (W : Waits sig Unit) :
    ∀ os : List (Fin 16), (∀ o ∈ os, o ≠ 0) →
      iprop(records X κ ∗ owes (c : Thread nD τ) (A + owedBar c os) W ∗ bigSepL os (toSignal c))
        ⊢ iprop((owes (c : Thread nD τ) A W -∗ wp frame (wpE (defs₀ (F := F)) 𝒱₀ c none) Set.univ k Q)
          -∗ wp frame (wpE (defs₀ (F := F)) 𝒱₀ c none) Set.univ (signals k (os.map fun o => c + o)) Q)
  | [], _ => by
    iintro ⟨-, HO, -⟩ Hk
    iapply Hk
    iapply (Entails.of_eq (congrArg (fun B => (owes (c : Thread nD τ) B W : sProp 𝕄)) (add_zero A)))
    iexact HO
  | o :: os, hos => by
    rw [bigSepL_cons', List.map_cons]
    unfold signals
    iintro ⟨#Hrec, HO, ⟨Ht, Hs⟩⟩ Hk
    unfold toSignal
    icases Ht with ⟨Htok, Hpay⟩
    iapply (Rounds.wp_signal 𝒱₀ ER (sched X) (c : Thread nD τ) none (dst := ((c + o : Dev nD) : Thread nD τ)) (sem := barS) (r := 0) (d := -o)
        (κ := κ (barCell (c + o)))
        (by rw [duties_bar]; exact Finset.mem_erase.mpr ⟨neg_ne_zero.mpr (hos o List.mem_cons_self), Finset.mem_univ _⟩)
        (amount_bar X (c + o) (-o)) () (A + owedBar c os) (add_assoc A _ _).symm)
      $$ [HO Htok Hpay]
    · isplitr; · iapply (inv_at X κ (bar_mem (c + o))); iexact Hrec
      isplitl [HO]; · iexact HO
      isplitl [Htok]; · iexact Htok
      isplitl [Hpay]; · rw [payload_bar]; iexact Hpay
      iapply (reached_at X κ (c + o)); iexact Hrec
    iintro HO
    iapply (signals_run c k Q A W os fun o' h => hos o' (List.mem_cons_of_mem _ h)) $$ [HO Hs]
    · isplitr; · iexact Hrec
      isplitl [HO]; · iexact HO
      unfold toSignal
      iexact Hs
    iexact Hk

/-- The copies, one by one: afterwards the device owes nothing for them, and may claim the end of each. -/
theorem copies_run (c : Dev nD) (k : ℙ) (Q : PUnit → sProp 𝕄) (W : Waits sig Unit) :
    ∀ os : List (Fin 16), (∀ o ∈ os, o ≠ 0) →
      iprop(records X κ ∗ owes (c : Thread nD τ) (owedRecv c os) W ∗ bigSepL os (toCopy X c))
        ⊢ iprop(((owes (c : Thread nD τ) 0 W ∗ bigSepL os fun o => cred (tallyAt (sendCell c o) () N))
            -∗ wp frame (wpE (defs₀ (F := F)) 𝒱₀ c none) Set.univ k Q)
          -∗ wp frame (wpE (defs₀ (F := F)) 𝒱₀ c none) Set.univ (copies k (os.map fun o => (c + o, o))) Q)
  | [], _ => by
    iintro ⟨-, HO, -⟩ Hk
    iapply Hk
    isplitl [HO]; · iexact HO
    rw [bigSepL_nil]
    iempintro
  | o :: os, hos => by
    rw [bigSepL_cons', bigSepL_cons', List.map_cons]
    unfold copies
    have ho : o ≠ 0 := hos o List.mem_cons_self
    iintro ⟨#Hrec, HO, ⟨Ht, Hs⟩⟩ Hk
    unfold toCopy barPay
    icases Ht with ⟨Hsrc, ⟨⟨%f, Hdst⟩, #HrV⟩, HtS, #HrS, HtV⟩
    iapply (Rounds.wp_send_pointsTo 𝒱₀ ER (sched X) (c : Thread nD τ) none (c' := ((c + o : Dev nD) : Thread nD τ)) (src := slotM 0) (dst := slotM o)
        (sS := .dma (sendS o)) (sem := .dma (recvS o)) (q := tok o) (fs := commFull X c) (κ₁ := κ (sendCell c o)) (κ₂ := κ (recvCell (c + o) o))
        (r₁ := 0) (r₂ := 0) (d₁ := 0) (d₂ := 0) (fd := f)
        (by rw [duties_send X c o ho]; exact Finset.mem_singleton_self _) (by rw [duties_recv X (c + o) o ho]; exact Finset.mem_singleton_self _)
        () () N rfl (amount_send X c o 0) (amount_recv X (c + o) o 0) (owedRecv c os) rfl (W := W)
        (by rw [payload_send]; exact BI.Entails.refl _)
        (by rw [payload_recv]; exact Entails.of_eq (pointsTo_congr (copy_slot X c o f)))) $$ [Hsrc Hdst HO HtS HtV]
    · isplitr; · iapply (inv_at X κ (send_mem c o)); iexact Hrec
      isplitr; · iapply (inv_at X κ (recv_mem (c + o) o)); iexact Hrec
      isplitl [Hsrc]; · iexact Hsrc
      isplitl [Hdst]; · iexact Hdst
      isplitl [HO]; · iexact HO
      isplitl [HtS]; · iexact HtS
      isplitr; · iexact HrS
      isplitl [HtV]; · iexact HtV
      iexact HrV
    iintro ⟨HcS, HO⟩
    iapply (copies_run c k Q W os fun o' h => hos o' (List.mem_cons_of_mem _ h)) $$ [HO Hs]
    · isplitr; · iexact Hrec
      isplitl [HO]; · iexact HO
      unfold toCopy barPay
      iexact Hs
    iintro ⟨HO, HC⟩
    iapply Hk
    isplitl [HO]; · iexact HO
    isplitl [HcS]; · iexact HcS
    iexact HC

/-- The waits for what arrives: each gives the slot, holding the sums. -/
theorem arrivals_run (c : Dev nD) (k : ℙ) (Q : PUnit → sProp 𝕄) :
    ∀ (os : List (Fin 16)) (W : Waits sig Unit), (∀ o ∈ os, o ≠ 0) →
      iprop(records X κ ∗ owes (c : Thread nD τ) 0 W
          ∗ bigSepL os fun o => iprop(cred (tallyAt (recvCell c o) () N) ∗ atPos ER (recvCell c o) 0 ∅ 0))
        ⊢ iprop(((∃ W', owes (c : Thread nD τ) 0 W') ∗ (bigSepL os fun o => iprop(atPos ER (recvCell c o) 1 ∅ 0 ∗ recvPay X c o))
            -∗ wp frame (wpE (defs₀ (F := F)) 𝒱₀ c none) Set.univ k Q)
          -∗ wp frame (wpE (defs₀ (F := F)) 𝒱₀ c none) Set.univ (arrivals k os) Q)
  | [], W, _ => by
    iintro ⟨-, HO, -⟩ Hk
    iapply Hk
    isplitl [HO]; · iexists W; iexact HO
    rw [bigSepL_nil]
    iempintro
  | o :: os, W, hos => by
    rw [bigSepL_cons', bigSepL_cons']
    unfold arrivals
    have ho : o ≠ 0 := hos o List.mem_cons_self
    iintro ⟨#Hrec, HO, ⟨⟨HC, Hat⟩, Hs⟩⟩ Hk
    iapply (Rounds.wp_wait_rest_token 𝒱₀ ER (sched X) (c : Thread nD τ) none (κ := κ (recvCell c o))
        (wpE_waitDma2_eq (src := slotM 0) (dst := slotM o) (hsrc := slot_exact 0) (hdst := slot_exact o) 𝒱₀ (c : Thread nD τ) none Set.univ) (Set.mem_univ _) () (O := 0) (W := W) (R := 0) (m := 0) (T := ∅)
        ((Nat.zero_add _).trans (expect_recv X c o ho).symm)) $$ [HC HO Hat]
    · isplitr; · iapply (inv_at X κ (recv_mem c o)); iexact Hrec
      isplitl [HC]; · iexact HC
      isplitl [HO]; · iexact HO
      isplitr; · rw [MayWait_zero]; iempintro
      iexact Hat
    iintro ⟨HO, Hat, -, Hpay⟩
    ihave Hp := (Entails.of_eq (rest_recv X c o ho)) $$ Hpay
    iapply (arrivals_run c k Q os _ fun o' h => hos o' (List.mem_cons_of_mem _ h)) $$ [HO Hs]
    · isplitr; · iexact Hrec
      isplitl [HO]; · iexact HO
      iexact Hs
    iintro ⟨HO, HC⟩
    iapply Hk
    isplitl [HO]; · iexact HO
    isplitl [Hat Hp]
    · isplitl [Hat]; · iexact Hat
      iexact Hp
    iexact HC

/-- The waits for the ends of the copies sent: each gives back the share of slot 0. -/
theorem departures_run (c : Dev nD) (k : ℙ) (Q : PUnit → sProp 𝕄) :
    ∀ (os : List (Fin 16)) (W : Waits sig Unit), (∀ o ∈ os, o ≠ 0) →
      iprop(records X κ ∗ owes (c : Thread nD τ) 0 W
          ∗ bigSepL os fun o => iprop(cred (tallyAt (sendCell c o) () N) ∗ atPos ER (sendCell c o) 0 ∅ 0))
        ⊢ iprop(((∃ W', owes (c : Thread nD τ) 0 W') ∗ (bigSepL os fun o => iprop(atPos ER (sendCell c o) 1 ∅ 0 ∗ sendPay X c o))
            -∗ wp frame (wpE (defs₀ (F := F)) 𝒱₀ c none) Set.univ k Q)
          -∗ wp frame (wpE (defs₀ (F := F)) 𝒱₀ c none) Set.univ (departures k os) Q)
  | [], W, _ => by
    iintro ⟨-, HO, -⟩ Hk
    iapply Hk
    isplitl [HO]; · iexists W; iexact HO
    rw [bigSepL_nil]
    iempintro
  | o :: os, W, hos => by
    rw [bigSepL_cons', bigSepL_cons']
    unfold departures
    have ho : o ≠ 0 := hos o List.mem_cons_self
    iintro ⟨#Hrec, HO, ⟨⟨HC, Hat⟩, Hs⟩⟩ Hk
    iapply (Rounds.wp_wait_rest_token 𝒱₀ ER (sched X) (c : Thread nD τ) none (κ := κ (sendCell c o))
        (wpE_waitDma2_eq (src := slotM o) (dst := slotM 0) (hsrc := slot_exact o) (hdst := slot_exact 0) 𝒱₀ (c : Thread nD τ) none Set.univ) (Set.mem_univ _) () (O := 0) (W := W) (R := 0) (m := 0) (T := ∅)
        ((Nat.zero_add _).trans (expect_send X c o ho).symm)) $$ [HC HO Hat]
    · isplitr; · iapply (inv_at X κ (send_mem c o)); iexact Hrec
      isplitl [HC]; · iexact HC
      isplitl [HO]; · iexact HO
      isplitr; · rw [MayWait_zero]; iempintro
      iexact Hat
    iintro ⟨HO, Hat, -, Hpay⟩
    ihave Hp := (Entails.of_eq (rest_send X c o ho)) $$ Hpay
    iapply (departures_run c k Q os _ fun o' h => hos o' (List.mem_cons_of_mem _ h)) $$ [HO Hs]
    · isplitr; · iexact Hrec
      isplitl [HO]; · iexact HO
      iexact Hs
    iintro ⟨HO, HC⟩
    iapply Hk
    isplitl [HO]; · iexact HO
    isplitl [Hat Hp]
    · isplitl [Hat]; · iexact Hat
      iexact Hp
    iexact HC

end Cert.Norm

end
-- ==== Proof.Held.lean ====
/-
  What a device holds, dealt out for the exchange and gathered again: the buffer by slots, slot 0 by shares, the rights by
  distances.
-/
module

public import proofs.«01_k».proof.Proof.Loops
public import Idealize.ShloMosaic.Lib.Ring

@[expose] public section

set_option maxRecDepth 16384

noncomputable section

namespace Cert.Norm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)
open Cert.KernelIdeal Cert.KernelIdeal.Gen

variable {F : FTy → Type} [FloatOps F]

local notation "𝕄" => MT nD τ sig Unit (Elt F) ℕ UU ℕ

variable (X : Dev nD → Vec F S2048x1024 .f32) (κ : GSem nD τ sig → ℕ)

/-! ## The distances other than zero -/

/-- The fifteen distances to another device. -/
abbrev others : Finset (Fin 16) := Finset.univ.erase 0

theorem offs_ne : ∀ o ∈ offs, o ≠ 0 := by decide

/-- What is held for each of the fifteen distances, listed. -/
theorem listed (Φ : Fin 16 → sProp 𝕄) : bigSep others Φ = bigSepL offs Φ :=
  bigSep_eq_bigSepL_of_eq offs (by decide) (by decide) Φ

/-- What is held for each distance: for zero and for the others. -/
theorem apart (Φ : Fin 16 → sProp 𝕄) : bigSep Finset.univ Φ = iprop(Φ 0 ∗ bigSep others Φ) := bigSep_erase (Finset.mem_univ 0)

/-- The fifteen distances are also the fifteen opposite ones. -/
theorem opposite (Φ : Fin 16 → sProp 𝕄) : bigSep others Φ = bigSep others fun o => Φ (-o) := by
  rw [show (others : Finset (Fin 16)) = others.map (Equiv.neg (Fin 16)).toEmbedding from by decide, bigSep_map]
  exact (congrArg (fun S => bigSep S fun o => Φ (-o)) (by decide : (others : Finset (Fin 16)) = others.map (Equiv.neg (Fin 16)).toEmbedding))

/-- What is held for each own semaphore: the sending ones and the arrival ones. -/
theorem own_apart (Φ : Fin 2 × Fin 16 → sProp 𝕄) :
    bigSep Finset.univ Φ = iprop((bigSep Finset.univ fun o => Φ (0, o)) ∗ bigSep Finset.univ fun o => Φ (1, o)) := by
  rw [bigSep_univ_prod]; exact bigSep_fin_two _

/-! ## The buffer by slots -/

/-- Device `c`'s buffer of slots at share `q`, holding `f`. -/
abbrev commPts (c : Dev nD) (q : PosShare TreeShare) (f : S16x16x128.Idx → Elt F .bf16) : sProp 𝕄 :=
  ((c : Thread nD τ).loc cc0_scratch0) ↦{q} f

theorem comm_slots (c : Dev nD) (q : PosShare TreeShare) (f : S16x16x128.Idx → Elt F .bf16) :
    commPts c q f = bigSep Finset.univ fun o => slotPts (F := F) c o q f :=
  Ring.pointsTo_blocks (ℓ := (c : Thread nD τ).loc cc0_scratch0) slotSet slot_disjoint slot_cover f

/-- A slot: the share that stays and the shares that may be lent. -/
theorem slot_toks (c : Dev nD) (o : Fin 16) (f : S16x16x128.Idx → Elt F .bf16) :
    slotPts (F := F) c o fullShare f = iprop(slotPts c o kept f ∗ bigSep Finset.univ fun i => slotPts c o (tok i) f) :=
  have h := Transfers.pointsTo_toks (Ix := Unit) (Name := ℕ) (U := UU) (Lvl := ℕ) (ℓ := (c : Thread nD τ).loc cc0_scratch0) (S := slotSet o) (f := f) fullShare 16
  h.1.antisymm h.2

/-- The buffer, in slots of any contents. -/
theorem comm_deal (c : Dev nD) (f : S16x16x128.Idx → Elt F .bf16) :
    commPts (F := F) c fullShare f ⊢ iprop(slotPts c 0 fullShare f ∗ bigSep others fun o => iprop(∃ f, slotPts c o fullShare f)) := by
  rw [comm_slots, apart]
  refine sep_mono_right (bigSep_mono fun o _ => ?_)
  show slotPts (F := F) c o fullShare f ⊢ iprop(∃ f, slotPts (F := F) c o fullShare f)
  iintro H; iexists f; iexact H

/-- What is left of the slots that arrived when every slot has been lent for reading the whole buffer. -/
def lent (c : Dev nD) : sProp 𝕄 := bigSep others fun o => bigSep Finset.univ fun i => slotPts c o (tok i) (commFull X c)

/-- When the fifteen slots have arrived the whole buffer can be read. -/
theorem comm_gather (c : Dev nD) :
    iprop(slotPts c 0 kept (commFull X c) ∗ bigSepL offs (recvPay X c)) ⊢ iprop(commPts c kept (commFull X c) ∗ lent X c) := by
  unfold lent
  rw [← listed, comm_slots, apart (fun o => slotPts c o kept (commFull X c)),
    show bigSep others (recvPay X c) = iprop((bigSep others fun o => slotPts c o kept (commFull X c))
      ∗ bigSep others fun o => bigSep Finset.univ fun i => slotPts c o (tok i) (commFull X c)) from
      (bigSep_congr fun o _ => slot_toks c o (commFull X c)).trans (bigSep_sep' _ _ _)]
  iintro ⟨H0, H1, H2⟩
  isplitr [H2]
  · isplitl [H0] <;> iassumption
  iexact H2

/-- With the shares of slot 0 back the buffer is whole again. -/
theorem comm_join (c : Dev nD) :
    iprop(commPts c kept (commFull X c) ∗ lent X c ∗ slotPts c 0 (tok 0) (commFull X c) ∗ bigSepL offs (sendPay X c))
      ⊢ commPts c fullShare (commFull X c) := by
  unfold lent
  rw [← listed, comm_slots, comm_slots, apart (fun o => slotPts c o kept (commFull X c)), apart (fun o => slotPts c o fullShare (commFull X c)),
    slot_toks c 0, apart (fun i => slotPts c 0 (tok i) (commFull X c)),
    show (bigSep others fun o => slotPts c o fullShare (commFull X c)) = iprop((bigSep others fun o => slotPts c o kept (commFull X c))
      ∗ bigSep others fun o => bigSep Finset.univ fun i => slotPts c o (tok i) (commFull X c)) from
      (bigSep_congr fun o _ => slot_toks c o (commFull X c)).trans (bigSep_sep' _ _ _)]
  iintro ⟨⟨H0, H1⟩, H2, H3, H4⟩
  isplitl [H0 H3 H4]
  · isplitl [H0]; · iexact H0
    isplitl [H3]; · iexact H3
    unfold sendPay
    iexact H4
  isplitl [H1] <;> iassumption

/-! ## What the loops start from -/

theorem toSignal_intro (c : Dev nD) :
    iprop((bigSep others fun o => dutyTok ER (barCell (c + o)) 0 (-o)) ∗ (bigSep others fun o => iprop(∃ f, slotPts c o fullShare f))
        ∗ bigSep others fun o => reached ER (recvCell c o) 0)
      ⊢ bigSepL offs (toSignal (F := F) c) := by
  have h : ∀ o, toSignal (F := F) c o = iprop(dutyTok ER (barCell (c + o)) 0 (-o) ∗ (∃ f, slotPts c (-o) fullShare f) ∗ reached ER (recvCell c (-o)) 0) := by
    intro o; unfold toSignal barPay; rw [dev_add_neg]
  rw [← listed, funext h, bigSep_sep', bigSep_sep', opposite (fun o => iprop(∃ f, slotPts c o fullShare f)), opposite (fun o => reached ER (recvCell c o) 0)]

theorem toCopy_intro (c : Dev nD) :
    iprop((bigSep others fun o => slotPts c 0 (tok o) (commFull X c)) ∗ bigSep others (barPay c) ∗ (bigSep others fun o => dutyTok ER (sendCell c o) 0 0)
        ∗ (bigSep others fun o => reached ER (sendCell c o) 0) ∗ bigSep others fun o => dutyTok ER (recvCell (c + o) o) 0 0)
      ⊢ bigSepL offs (toCopy X c) := by
  rw [← listed]
  unfold toCopy
  rw [bigSep_sep', bigSep_sep', bigSep_sep', bigSep_sep']

/-! ## Closing the cells -/

/-- A cell whose round is over gives its counter back, at zero. -/
theorem close_cell (g : GSem nD τ sig) (hg : g ∈ (barCells ∪ ownCells : Finset (GSem nD τ sig))) :
    iprop(records X κ ∗ atPos ER g 1 ∅ 0) ⊢ (|={Set.univ}=> semVal g 0 : sProp 𝕄) := by
  iintro ⟨#Hrec, H⟩
  iapply (Rounds.cell_close ER (sched X) (Set.mem_univ (κ g)) id (duties_later X g))
  isplitr; · iapply (inv_at X κ hg); iexact Hrec
  iexact H
/-- So does a cell that never had a duty. -/
theorem close_unused (g : GSem nD τ sig) (hg : g ∈ (barCells ∪ ownCells : Finset (GSem nD τ sig))) (h0 : (sched X).duties g 0 = ∅) :
    iprop(records X κ ∗ atPos ER g 0 ∅ 0) ⊢ (|={Set.univ}=> semVal g 0 : sProp 𝕄) := by
  iintro ⟨#Hrec, H⟩
  iapply (Rounds.cell_close ER (sched X) (Set.mem_univ (κ g)) id (R := 0) fun r _ => by
    rcases Nat.eq_zero_or_pos r with rfl | h
    · exact h0
    · exact duties_later X g r h)
  isplitr; · iapply (inv_at X κ hg); iexact Hrec
  iexact H

/-- The sending or arrival cells of a device (those that `cell` lists) all give their counters back. -/
theorem close_all (cell : Fin 16 → GSem nD τ sig) (hm : ∀ o, cell o ∈ (barCells ∪ ownCells : Finset (GSem nD τ sig)))
    (h0 : (sched X).duties (cell 0) 0 = ∅) :
    iprop(records X κ ∗ atPos ER (cell 0) 0 ∅ 0 ∗ bigSep others fun o => atPos ER (cell o) 1 ∅ 0)
      ⊢ (|={Set.univ}=> bigSep Finset.univ fun o => semVal (cell o) 0 : sProp 𝕄) := by
  rw [apart]
  iintro ⟨#Hrec, H0, H⟩
  imod (close_unused X κ (cell 0) (hm 0) h0) $$ [H0] with H0'
  · isplitr; · iexact Hrec
    iexact H0
  ihave Hs := (bigSep_with_persistent (R := records X κ) (S := others) (Φ := fun o => (atPos ER (cell o) 1 ∅ 0 : sProp 𝕄))
    (Ψ := fun o => (iprop(|={Set.univ}=> semVal (cell o) 0) : sProp 𝕄)) fun o _ => close_cell X κ (cell o) (hm o)) $$ [H]
  · isplitr; · iexact Hrec
    iexact H
  imod (bigSep_fupd others fun o => (semVal (cell o) 0 : sProp 𝕄)) $$ Hs with Hs'
  imodintro
  isplitl [H0'] <;> iassumption

end Cert.Norm

end
-- ==== Proof.Body.lean ====
/-
  The run of the kernel's body on one device: from the rows, the scale and the rights of the exchange, to the result in the
  output's buffer, with every semaphore back at zero and nothing owed.
-/
module

public import proofs.«01_k».proof.Proof.Held

@[expose] public section

set_option maxRecDepth 16384

noncomputable section

namespace Cert.Norm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)
open Cert.KernelIdeal Cert.KernelIdeal.Gen

variable {F : FTy → Type} [FloatOps F]

local notation "𝕄" => MT nD τ sig Unit (Elt F) ℕ UU ℕ

variable (X : Dev nD → Vec F S2048x1024 .f32) (G : Vec F S1x1024 .f32) (κ : GSem nD τ sig → ℕ)

/-! ## Loads and stores of whole buffers -/

theorem zero2 : (![0, 0] : Fin 2 → Nat) = fun _ => 0 := funext fun a => by fin_cases a <;> rfl
theorem zero3 : (![0, 0, 0] : Fin 3 → Nat) = fun _ => 0 := funext fun a => by fin_cases a <;> rfl

abbrev xM : Memref sig .tc .vmem S2048x1024 .f32 := Memref.whole cc0_stg0_0
abbrev gM : Memref sig .tc .vmem S1x1024 .f32 := Memref.whole cc0_stg1_0
abbrev oM : Memref sig .tc .vmem S2048x1024 .f32 := Memref.whole cc0_stg2_0

/-- A buffer of device `c` held whole, holding `f`. -/
abbrev bufPts (c : Dev nD) (b : Ref sig .tc) (f : b.ty.Contents (Elt F)) : sProp 𝕄 := ((c : Thread nD τ).loc b) ↦{fullShare} f

theorem read_x (f : Vec F S2048x1024 .f32) : (xM : Memref sig .tc .vmem S2048x1024 .f32).view.readAt (Elt F)
    (Rect.unit (s := S2048x1024) ![0, 0] S2048x1024.size inb_S2048x1024_S2048x1024_0_0).toLoadRect f = f :=
  Memref.readAt_unit_zero (Elt F) cc0_stg0_0 zero2 _ f
theorem read_g (f : Vec F S1x1024 .f32) : (gM : Memref sig .tc .vmem S1x1024 .f32).view.readAt (Elt F)
    (Rect.unit (s := S1x1024) ![0, 0] S1x1024.size inb_S1x1024_S1x1024_0_0).toLoadRect f = f :=
  Memref.readAt_unit_zero (Elt F) cc0_stg1_0 zero2 _ f
theorem read_comm (f : S16x16x128.Idx → Elt F .bf16) : (commM : Memref sig .tc .vmem S16x16x128 .bf16).view.readAt (Elt F)
    (Rect.unit (s := S16x16x128) ![0, 0, 0] S16x16x128.size inb_S16x16x128_S16x16x128_0_0_0).toLoadRect f = f :=
  Memref.readAt_unit_zero (Elt F) cc0_scratch0 zero3 _ f
theorem write_o (f w : Vec F S2048x1024 .f32) : ((oM : Memref sig .tc .vmem S2048x1024 .f32).access
    (Rect.unit (s := S2048x1024) ![0, 0] S2048x1024.size inb_S2048x1024_S2048x1024_0_0)).write (Elt F) f w Finset.univ = w :=
  Memref.write_access_unit_zero_univ (Elt F) cc0_stg2_0 zero2 _ f w
/-- A load or a store through the rectangle of slot 0 touches slot 0. -/
theorem access_slot : ((commM : Memref sig .tc .vmem S16x16x128 .bf16).access (slotR 0)).set = slotSet 0 :=
  (View.set_slice_whole cc0_scratch0 (slotR 0)).trans (slotSet_eq 0).symm

/-! ## The run -/

/-- The result on device `c`, when device `d` holds the rows `X d` and `c` the scale `G`. -/
def outOf (c : Dev nD) : Vec F S2048x1024 .f32 := k0_pay4 (k0_pay3 (k0_pay1 (X c)) G) (commFull X c)

/-- The rights of device `c` in the exchange, its cells open. -/
def opened (c : Dev nD) : sProp 𝕄 :=
  iprop(records X κ ∗ atPos ER (barCell c) 0 ∅ 0
    ∗ (bigSep Finset.univ fun k => iprop(atPos ER ((c : Thread nD τ), osem k) 0 ∅ 0 ∗ reached ER ((c : Thread nD τ), osem k) 0))
    ∗ (bigSep others fun o => dutyTok ER (barCell (c + o)) 0 (-o)) ∗ (bigSep others fun o => dutyTok ER (sendCell c o) 0 0)
    ∗ bigSep others fun o => dutyTok ER (recvCell (c + o) o) 0 0)

/-- What device `c` may count on: fifteen units at its barrier, and an arrival over each distance. -/
def credits (c : Dev nD) : sProp 𝕄 :=
  iprop(cred (tallyAt (barCell c) () 15) ∗ bigSep others fun o => cred (tallyAt (recvCell c o) () N))

/-- Before the body. -/
def bodyPre (c : Dev nD) (f : Vec F S2048x1024 .f32) (W : Waits sig Unit) : sProp 𝕄 :=
  iprop(opened X κ c ∗ credits c ∗ levAts L lv ∗ (∃ f, commPts c fullShare f)
    ∗ bufPts c cc0_stg0_0 (X c) ∗ bufPts c cc0_stg1_0 G ∗ bufPts c cc0_stg2_0 f ∗ owes (c : Thread nD τ) (O₀ c) W)

/-- After the body. -/
def bodyPost (c : Dev nD) : sProp 𝕄 :=
  iprop(semVal (barCell c) 0 ∗ (bigSep Finset.univ fun k => semVal ((c : Thread nD τ), osem k) 0) ∗ (∃ f, commPts c fullShare f)
    ∗ bufPts c cc0_stg0_0 (X c) ∗ bufPts c cc0_stg1_0 G ∗ bufPts c cc0_stg2_0 (outOf X G c) ∗ ∃ W, owes (c : Thread nD τ) 0 W)

set_option maxHeartbeats 1600000 in
theorem body_run (c : Dev nD) (f : Vec F S2048x1024 .f32) (W : Waits sig Unit) (Q : PUnit → sProp 𝕄) :
    iprop(bodyPre X G κ c f W ∗ (bodyPost X G c -∗ Q ⟨⟩))
      ⊢ wp frame (wpE (defs₀ (F := F)) 𝒱₀ c none) Set.univ
        (cc0_body (F := F) xM (Memref.isWhole_whole _) gM (Memref.isWhole_whole _) oM (Memref.isWhole_whole _) commM (Memref.isWhole_whole _) cc0_scratch1 cc0_scratch2) Q := by
  rw [body_eq, wp_deviceId]
  unfold bodyPre opened credits
  rw [own_apart, bigSep_sep', bigSep_sep', apart (fun o => reached ER ((c : Thread nD τ), osem (0, o)) 0), apart (fun o => reached ER ((c : Thread nD τ), osem (1, o)) 0),
    apart (fun o => atPos ER ((c : Thread nD τ), osem (0, o)) 0 ∅ 0), apart (fun o => atPos ER ((c : Thread nD τ), osem (1, o)) 0 ∅ 0)]
  iintro ⟨⟨⟨#Hrec, HatB, ⟨⟨⟨HatS0, HatS⟩, -, HrS⟩, ⟨HatV0, HatV⟩, -, HrV⟩, HtB, HtS, HtV⟩, ⟨HcB, HcV⟩, #Hlev, ⟨%f0, Hcomm⟩, Hx, Hg, Ho, HO⟩, Hk⟩
  ihave Hslots := (comm_deal c f0) $$ Hcomm
  icases Hslots with ⟨Hs0, Hslots⟩
  -- the signals: the device's slots are handed to those who write them
  ihave Hsig := (toSignal_intro c) $$ [HtB Hslots HrV]
  · isplitl [HtB]; · iexact HtB
    isplitl [Hslots]; · iexact Hslots
    iexact HrV
  iapply (signals_run X κ c _ Q (owedRecv c offs) W offs offs_ne) $$ [HO Hsig]
  · isplitr; · iexact Hrec
    isplitl [HO]; · unfold O₀; iexact HO
    iexact Hsig
  iintro HO
  unfold exchange
  -- the device's own sums go to slot 0
  iapply (wp_load 𝒱₀ (c : Thread nD τ) none Set.univ (m := xM) (Finset.subset_univ _)) $$ Hx; iintro Hx
  rw [read_x]
  iapply (wp_load_rect 𝒱₀ (c : Thread nD τ) none Set.univ (m := commM) (r := slotR 0) access_slot.le) $$ Hs0; iintro Hs0
  iapply (wp_store 𝒱₀ (c : Thread nD τ) none Set.univ (m := commM) (r := slotR 0) (Mk := Finset.univ) (S := slotSet 0) (access_slot.le)) $$ Hs0; iintro Hs0
  ihave Hs0 := (Entails.of_eq ((pointsTo_congr (store_slot X c f0)).trans (slot_toks c 0 (commFull X c)))) $$ Hs0
  icases Hs0 with ⟨Hs0, Htoks⟩
  ihave Htoks := (Entails.of_eq (apart fun i => slotPts c 0 (tok i) (commFull X c))) $$ Htoks
  icases Htoks with ⟨Htok0, Htoks⟩
  -- the barrier: the others' slots are handed to this device
  iapply (Rounds.wp_wait_rest_token 𝒱₀ ER (sched X) (c : Thread nD τ) none (κ := κ (barCell c))
      (wpE_semWait_eq 𝒱₀ (c : Thread nD τ) none Set.univ) (Set.mem_univ _) () (O := owedRecv c offs) (W := W) (R := 0) (m := 0) (T := ∅)
      ((Nat.zero_add 15).trans (expect_bar X c).symm)) $$ [HcB HO HatB]
  · isplitr; · iapply (inv_at X κ (bar_mem c)); iexact Hrec
    isplitl [HcB]; · iexact HcB
    isplitl [HO]; · iexact HO
    isplitr; · iapply (mayWait_bar c); iexact Hlev
    iexact HatB
  iintro ⟨HO, HatB, -, Hpay⟩
  ihave Hpay := (Entails.of_eq (rest_bar X c)) $$ Hpay
  -- the copies
  ihave Hcp := (toCopy_intro X c) $$ [Htoks Hpay HtS HrS HtV]
  · isplitl [Htoks]; · iexact Htoks
    isplitl [Hpay]; · iexact Hpay
    isplitl [HtS]; · iexact HtS
    isplitl [HrS]; · iexact HrS
    iexact HtV
  iapply (copies_run X κ c _ Q _ offs offs_ne) $$ [HO Hcp]
  · isplitr; · iexact Hrec
    isplitl [HO]; · iexact HO
    iexact Hcp
  iintro ⟨HO, HcS⟩
  iapply (wp_load 𝒱₀ (c : Thread nD τ) none Set.univ (m := gM) (Finset.subset_univ _)) $$ Hg; iintro Hg
  rw [read_g]
  -- the arrivals
  ihave Harr := (Entails.of_eq ((bigSep_sep' others (fun o => (cred (tallyAt (recvCell c o) () N) : sProp 𝕄)) fun o => atPos ER (recvCell c o) 0 ∅ 0).symm.trans (listed _))) $$ [HcV HatV]
  · isplitl [HcV]; · iexact HcV
    iexact HatV
  iapply (arrivals_run X κ c _ Q offs _ offs_ne) $$ [HO Harr]
  · isplitr; · iexact Hrec
    isplitl [HO]; · iexact HO
    iexact Harr
  iintro ⟨⟨%W', HO⟩, Harr⟩
  ihave Harr := (Entails.of_eq ((listed _).symm.trans (bigSep_sep' others (fun o => (atPos ER (recvCell c o) 1 ∅ 0 : sProp 𝕄)) (recvPay X c)))) $$ Harr
  icases Harr with ⟨HatV, Hpay⟩
  ihave Hcomm := (comm_gather X c) $$ [Hs0 Hpay]
  · isplitl [Hs0]; · iexact Hs0
    rw [← listed]; iexact Hpay
  icases Hcomm with ⟨Hcomm, Hlent⟩
  -- the result
  unfold finish
  iapply (wp_load 𝒱₀ (c : Thread nD τ) none Set.univ (m := commM) (Finset.subset_univ _)) $$ Hcomm; iintro Hcomm
  rw [read_comm]
  iapply (wp_load 𝒱₀ (c : Thread nD τ) none Set.univ (m := oM) (Finset.subset_univ _)) $$ Ho; iintro Ho
  iapply (wp_store 𝒱₀ (c : Thread nD τ) none Set.univ (m := oM)
      (r := Rect.unit (s := S2048x1024) ![0, 0] S2048x1024.size inb_S2048x1024_S2048x1024_0_0) (Mk := Finset.univ) (Finset.subset_univ _)) $$ Ho; iintro Ho
  rw [write_o]
  -- the ends of the copies sent
  ihave Hdep := (Entails.of_eq ((congrArg (fun P => iprop(P ∗ bigSep others fun o => (atPos ER (sendCell c o) 0 ∅ 0 : sProp 𝕄))) (listed _).symm).trans
      ((bigSep_sep' others (fun o => (cred (tallyAt (sendCell c o) () N) : sProp 𝕄)) fun o => atPos ER (sendCell c o) 0 ∅ 0).symm.trans (listed _)))) $$ [HcS HatS]
  · isplitl [HcS]; · iexact HcS
    iexact HatS
  iapply (departures_run X κ c _ Q offs _ offs_ne) $$ [HO Hdep]
  · isplitr; · iexact Hrec
    isplitl [HO]; · iexact HO
    iexact Hdep
  iintro ⟨⟨%W'', HO⟩, Hdep⟩
  ihave Hdep := (Entails.of_eq ((listed _).symm.trans (bigSep_sep' others (fun o => (atPos ER (sendCell c o) 1 ∅ 0 : sProp 𝕄)) (sendPay X c)))) $$ Hdep
  icases Hdep with ⟨HatS, Hpay⟩
  ihave Hcomm := (comm_join X c) $$ [Hcomm Hlent Htok0 Hpay]
  · isplitl [Hcomm]; · iexact Hcomm
    isplitl [Hlent]; · iexact Hlent
    isplitl [Htok0]; · iexact Htok0
    rw [← listed]; iexact Hpay
  -- every semaphore is handed back
  rw [wp_ret]
  imod (close_cell X κ (barCell c) (bar_mem c)) $$ [HatB] with HzB
  · isplitr; · iexact Hrec
    iexact HatB
  imod (close_all X κ (sendCell c) (send_mem c) (duties_send_zero X c)) $$ [HatS0 HatS] with HzS
  · isplitr; · iexact Hrec
    isplitl [HatS0]; · iexact HatS0
    iexact HatS
  imod (close_all X κ (recvCell c) (recv_mem c) (duties_recv_zero X c)) $$ [HatV0 HatV] with HzV
  · isplitr; · iexact Hrec
    isplitl [HatV0]; · iexact HatV0
    iexact HatV
  imodintro
  iapply Hk
  unfold bodyPost outOf
  rw [own_apart]
  isplitl [HzB]; · iexact HzB
  isplitl [HzS HzV]; · isplitl [HzS] <;> iassumption
  isplitl [Hcomm]; · iexists _; iexact Hcomm
  isplitl [Hx]; · iexact Hx
  isplitl [Hg]; · iexact Hg
  isplitl [Ho]; · iexact Ho
  iexists _; iexact HO

end Cert.Norm

end
-- ==== Proof.Region.lean ====
/-
  The kernel as a region of the host program: what is in the staging buffers, the body's obligation, and the region as a
  segment between what the launch gives every device and what is left at the end.
-/
module

public import proofs.«01_k».proof.Proof.Body
public import proofs.«01_k».proof.Proof.Gen.KernelIdeal.Points
public import Idealize.ShloMosaic.Lib.Pipeline.Value

@[expose] public section

set_option maxRecDepth 16384

noncomputable section

namespace Cert.Norm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (l : Loc nD τ sig) → Buf (Elt F) l)

/-! ## What the buffers hold -/

/-- A buffer of the program, as a device refers to it. -/
abbrev devRef (b : Ref sig .tc) : DevRef τ sig := Proc.devRef .tc b

/-- At the start. -/
def V₀ (c : Dev nD) : Valuation τ sig (Elt F) := fun b => m (c, b)
/-- When the kernel starts: the scale has been given its second axis. -/
def V₁ (c : Dev nD) : Valuation τ sig (Elt F) := StableHlo.after hostOps0 (V₀ m c)
/-- The rows of device `c`. -/
def rows (c : Dev nD) : Vec F S2048x1024 .f32 := V₁ m c (devRef main_arg0)
/-- The scale of device `c`. -/
def scale (c : Dev nD) : Vec F S1x1024 .f32 := V₁ m c (devRef main_v1)
/-- The result of device `c`. -/
def result (c : Dev nD) : Vec F S2048x1024 .f32 := outOf (rows m) (scale m c) c
/-- At the end. -/
def V₂ (c : Dev nD) : Valuation τ sig (Elt F) := Function.update (V₁ m c) (devRef main_v2) (result m c)

theorem V₂_out (c : Dev nD) : V₂ m c (devRef main_v2) = result m c := Function.update_self ..
theorem V₂_ne (c : Dev nD) (b : Ref sig .tc) (h : devRef b ≠ devRef main_v2) : V₂ m c (devRef b) = V₁ m c (devRef b) :=
  Function.update_of_ne h ..

/-! ## The windows: every block is the whole array -/

theorem read_0 (t : Fin cfg0.N) (f : Vec F S2048x1024 .f32) : (win0_0.blk t).view.read (Elt F) f = f := by
  funext j
  show f ((win0_0.rect t).emb j) = f j
  exact congrArg f (funext fun a => Fin.ext (win0_0.rect_emb_val_of_index_zero t a rfl j))
theorem read_1 (t : Fin cfg0.N) (f : Vec F S1x1024 .f32) : (win0_1.blk t).view.read (Elt F) f = f := by
  funext j
  show f ((win0_1.rect t).emb j) = f j
  exact congrArg f (funext fun a => Fin.ext (win0_1.rect_emb_val_of_index_zero t a rfl j))
theorem read_2 (t : Fin cfg0.N) (f : Vec F S2048x1024 .f32) : (win0_2.blk t).view.read (Elt F) f = f := by
  funext j
  show f ((win0_2.rect t).emb j) = f j
  exact congrArg f (funext fun a => Fin.ext (win0_2.rect_emb_val_of_index_zero t a rfl j))

/-! ## What a device holds around the region -/

/-- The rights of device `c` before its own cells are open. -/
def ghost (κ : GSem nD τ sig → ℕ) (c : Dev nD) : sProp 𝕄 :=
  iprop(records (rows m) κ ∗ atPos ER (barCell c) 0 ∅ 0 ∗ (bigSep Finset.univ fun k => openTok ER ((c : Thread nD τ), osem k))
    ∗ (bigSep others fun o => dutyTok ER (barCell (c + o)) 0 (-o)) ∗ (bigSep others fun o => dutyTok ER (sendCell c o) 0 0)
    ∗ bigSep others fun o => dutyTok ER (recvCell (c + o) o) 0 0)

/-- What the launch gives. -/
def start (c : Dev nD) : sProp 𝕄 := iprop((∃ κ, ghost m κ c) ∗ credits c)
/-- The same with the cells open. -/
def entered (c : Dev nD) : sProp 𝕄 := iprop((∃ κ, opened (rows m) κ c) ∗ credits c ∗ levAts L lv)
/-- The slots, holding anything. -/
def commAny (c : Dev nD) : sProp 𝕄 := iprop(∃ f, commPts c fullShare f)
/-- The kernel's own semaphores at zero. -/
def ownZero (c : Dev nD) : sProp 𝕄 := bigSep Finset.univ fun k => semVal ((c : Thread nD τ), osem k) 0

/-- Opening the cells. -/
theorem enter (c : Dev nD) : iprop(start m c ∗ Pipeline.ownSems0 osem c ∗ levAts L lv) ⊢ (|={Set.univ}=> entered m c : sProp 𝕄) := by
  unfold start entered ghost Pipeline.ownSems0
  iintro ⟨⟨⟨%κ, #Hrec, HatB, Hop, HtB, HtS, HtV⟩, Hcr⟩, Hz, #Hlev⟩
  have h1 : ∀ k ∈ (Finset.univ : Finset (Fin 2 × Fin 16)),
      iprop(records (rows m) κ ∗ (openTok ER ((c : Thread nD τ), osem k) ∗ semVal ((c : Thread nD τ), osem k) 0))
      ⊢ (|={Set.univ}=> (atPos ER ((c : Thread nD τ), osem k) 0 ∅ 0 ∗ reached ER ((c : Thread nD τ), osem k) 0) : sProp 𝕄) := fun k _ => by
    iintro ⟨#Hrec, Ho, Hz⟩
    iapply (Rounds.cell_open ER (sched (rows m)) (g := ((c : Thread nD τ), osem k)) (Set.mem_univ (κ ((c : Thread nD τ), osem k))))
    isplitr; · iapply (inv_at (rows m) κ (own_mem c k)); iexact Hrec
    isplitl [Ho] <;> iassumption
  ihave Hoz := (Entails.of_eq (bigSep_sep' Finset.univ (fun k => (openTok ER ((c : Thread nD τ), osem k) : sProp 𝕄))
      fun k => semVal ((c : Thread nD τ), osem k) 0).symm) $$ [Hop Hz]
  · isplitl [Hop]; · iexact Hop
    iexact Hz
  ihave Hup := (bigSep_with_persistent (R := records (rows m) κ) h1) $$ [Hoz]
  · isplitr; · iexact Hrec
    iexact Hoz
  imod (bigSep_fupd Finset.univ fun k => (iprop(atPos ER ((c : Thread nD τ), osem k) 0 ∅ 0 ∗ reached ER ((c : Thread nD τ), osem k) 0) : sProp 𝕄)) $$ Hup with Hat
  imodintro
  isplitr [Hcr]
  · iexists κ; unfold opened
    isplitr; · iexact Hrec
    isplitl [HatB]; · iexact HatB
    isplitl [Hat]; · iexact Hat
    isplitl [HtB]; · iexact HtB
    isplitl [HtS] <;> iassumption
  isplitl [Hcr]; · iexact Hcr
  iexact Hlev

/-! ## The region's data -/

/-- The arrays, what the body leaves in the staging buffers, and what is held before and after its one point. -/
def dat0 (c : Dev nD) : Dat τ (Elt F) Unit ℕ UU ℕ cfg0 c where
  A w := V₁ m c (devRef (Pipeline.arrRef spec0 w))
  after w _ := match w with
    | 0 => rows m c
    | 1 => scale m c
    | 2 => result m c
    | ⟨_ + 3, h⟩ => absurd h (Nat.not_lt.2 (Nat.le_add_left _ _))
  Φ t := if t.val = 0 then iprop(entered m c ∗ commAny c ∗ ∃ r, prngReg c r)
    else iprop(semVal (barCell c) 0 ∗ ownZero c ∗ commAny c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem before_0 (c : Dev nD) (t : Fin cfg0.N) (d) : (dat0 m c).before 0 t d = rows m c := by
  unfold Dat.before; rw [if_pos (fetch0_0 t)]; exact read_0 (F := F) t (rows m c)
theorem before_1 (c : Dev nD) (t : Fin cfg0.N) (d) : (dat0 m c).before 1 t d = scale m c := by
  unfold Dat.before; rw [if_pos (fetch0_1 t)]; exact read_1 (F := F) t (scale m c)

theorem share_eq (c : Dev nD) (w : Fin cfg0.W) : (dat0 m c).share w = fullShare := by
  unfold Dat.share; split <;> rfl

/-- The result's array at the end. -/
theorem final_2 (c : Dev nD) : (dat0 m c).arrAt 2 cfg0.N = result m c :=
  (read_2 t0_0 _).symm.trans (((dat0 m c).read_blk_arrAt 2 (result m c) (fun t _ => (read_2 t (result m c)).symm) t0_0 (flush0_2 _)).trans
    (read_2 t0_0 _))

/-! ## The body's obligation -/

theorem owed_first (c : Dev nD) : (dat0 m c).owed (0 : Fin (cfg0.N + 1)) = O₀ c := by
  show (if (0 : Fin (cfg0.N + 1)).val = 0 then O₀ c else 0) = O₀ c; exact if_pos rfl
theorem owed_last (c : Dev nD) : (dat0 m c).owed (Fin.last cfg0.N) = 0 := by
  show (if (Fin.last cfg0.N).val = 0 then O₀ c else 0) = 0
  rw [Fin.val_last, if_neg (by rw [show cfg0.N = 1 from N_0]; decide)]

/-- A device owing what the region's data says, in either direction. -/
theorem owesAt_eq (c : Dev nD) (t : Fin (cfg0.N + 1)) (O : CellTallies nD τ sig Unit) (h : (dat0 m c).owed t = O) :
    ((dat0 m c).owesAt () t : sProp 𝕄) = iprop(∃ W, owes (c : Thread nD τ) O W) := by
  unfold Dat.owesAt Pipeline.owesWithin Dat.bound
  rw [h]
  have h₁ : iprop(∃ W : Waits sig Unit, ⌜(W : Set (SemLoc sig × Unit)) ⊆ (dat0 m c).recorded t ∪ cfg0.waitPairs ()⌝ ∗ owes (c : Thread nD τ) O W)
      ⊢ (iprop(∃ W, owes (c : Thread nD τ) O W) : sProp 𝕄) := by
    iintro ⟨%W, -, H⟩; iexists W; iexact H
  have h₂ : (iprop(∃ W, owes (c : Thread nD τ) O W) : sProp 𝕄)
      ⊢ iprop(∃ W : Waits sig Unit, ⌜(W : Set (SemLoc sig × Unit)) ⊆ (dat0 m c).recorded t ∪ cfg0.waitPairs ()⌝ ∗ owes (c : Thread nD τ) O W) := by
    iintro ⟨%W, H⟩; iexists W
    isplitr; · ipureintro; exact fun _ _ => Or.inl trivial
    iexact H
  exact h₁.antisymm h₂

/-- Holding a whole buffer through the memref that names it. -/
theorem owns_whole (c : Dev nD) (b : Ref sig .tc) (f : b.ty.Contents (Elt F)) :
    (owns (c : Thread nD τ) (Memref.whole b) fullShare f : sProp 𝕄) = bufPts c b f := by
  unfold owns
  simp only [Memref.view_whole, View.read_whole, View.set_whole]
  have h₁ : (iprop(∃ g : b.ty.Contents (Elt F), ⌜g = f⌝ ∗ bufPts c b g) : sProp 𝕄) ⊢ bufPts c b f := by
    iintro ⟨%g, %hg, H⟩; subst hg; iexact H
  have h₂ : (bufPts c b f : sProp 𝕄) ⊢ iprop(∃ g : b.ty.Contents (Elt F), ⌜g = f⌝ ∗ bufPts c b g) := by
    iintro H; iexists f
    isplitr; · ipureintro; rfl
    iexact H
  exact h₁.antisymm h₂

theorem body_obligation (c : Dev nD) : BodyObligation (dat0 m c) defs₀ 𝒱₀ () Set.univ := fun t => by
  obtain rfl := fin_N0 t
  rw [bigSep_W0, bigSep_W0]
  show iprop(iprop(entered m c ∗ commAny c ∗ ∃ r, prngReg c r) ∗ (dat0 m c).owesAt () 0
      ∗ (∃ d, owns (c : Thread nD τ) xM fullShare ((dat0 m c).before 0 t0_0 d))
      ∗ (∃ d, owns (c : Thread nD τ) gM fullShare ((dat0 m c).before 1 t0_0 d))
      ∗ (∃ d, owns (c : Thread nD τ) oM fullShare ((dat0 m c).before 2 t0_0 d)))
    ⊢ wp frame (wpE (defs₀ (F := F)) 𝒱₀ c none) Set.univ
        (cc0_body (F := F) xM (Memref.isWhole_whole _) gM (Memref.isWhole_whole _) oM (Memref.isWhole_whole _) commM (Memref.isWhole_whole _) cc0_scratch1 cc0_scratch2)
        fun _ => iprop(iprop(semVal (barCell c) 0 ∗ ownZero c ∗ commAny c ∗ ∃ r, prngReg c r) ∗ (dat0 m c).owesAt () (Fin.last cfg0.N)
          ∗ owns (c : Thread nD τ) xM fullShare (rows m c) ∗ owns (c : Thread nD τ) gM fullShare (scale m c)
          ∗ owns (c : Thread nD τ) oM fullShare (result m c))
  simp only [before_0, before_1, owns_whole, owesAt_eq m c _ _ (owed_first m c), owesAt_eq m c _ _ (owed_last m c)]
  unfold entered commAny ownZero
  iintro ⟨⟨⟨⟨%κ, Hop⟩, Hcr, #Hlev⟩, Hcomm, Hreg⟩, ⟨%W, HO⟩, ⟨%d0, Hx⟩, ⟨%d1, Hg⟩, ⟨%d2, Ho⟩⟩
  iapply (body_run (rows m) (scale m c) κ c _ W)
  isplitr [Hreg]
  · unfold bodyPre
    isplitl [Hop]; · iexact Hop
    isplitl [Hcr]; · iexact Hcr
    isplitr; · iexact Hlev
    isplitl [Hcomm]; · iexact Hcomm
    isplitl [Hx]; · iexact Hx
    isplitl [Hg]; · iexact Hg
    isplitl [Ho]; · iexact Ho
    iexact HO
  unfold bodyPost
  iintro ⟨Hb, Hz, Hcomm, Hx, Hg, Ho, HO⟩
  isplitl [Hb Hz Hcomm Hreg]
  · isplitl [Hb]; · iexact Hb
    isplitl [Hz]; · iexact Hz
    isplitl [Hcomm] <;> iassumption
  isplitl [HO]; · iexact HO
  isplitl [Hx]; · iexact Hx
  isplitl [Hg]; · iexact Hg
  unfold result
  iexact Ho

/-! ## The region as a segment -/

theorem cells_inj : Function.Injective (Pipeline.cellOf (nD := nD) (τ := τ) (Pipeline.pin (pcfgs (F := F)) adm)) := cellOf_inj

theorem layout : Pipeline.PLaunchFacts (nD := nD) (τ := τ) (pcfgs (F := F)) 0 := launch0.toP

theorem scoped_eq (c : Dev nD) : (Pipeline.scopedRest (Ix := Unit) (Name := ℕ) (U := UU) (Lvl := ℕ) (Val := Elt F)
    (Pipeline.pin (pcfgs (F := F)) adm 0).spec c : sProp 𝕄) = commAny c := scopedRest0_eq c

/-- What a device owes while the region runs is at its peers' barriers and arrivals, above the staging copies. -/
theorem owed_above (c : Dev nD) (t : Fin ((Pipeline.pin (pcfgs (F := F)) adm 0).N + 1)) (g : GSem nD τ sig) (i : Unit)
    (h : 0 < (pdats m 0 c).owed t g i) : i ∈ L g ∧ (0 : ℕ) < lv g i := by
  rw [show (pdats m 0 c).owed t = if t.val = 0 then O₀ c else 0 from rfl] at h
  split at h
  · unfold O₀ at h
    rw [Pi.add_apply, Finsupp.add_apply] at h
    rcases Nat.add_pos_iff_pos_or_pos.mp h with h | h
    · obtain ⟨d, o, rfl⟩ := owedRecv_pos c g i _ h
      exact ⟨by rw [L_tc]; exact Finset.mem_singleton_self _, by rw [lv_recv]; decide⟩
    · obtain ⟨d, rfl⟩ := owedBar_pos c g i _ h
      exact ⟨by rw [L_tc]; exact Finset.mem_singleton_self _, by rw [lv_bar]; decide⟩
  · exact absurd h (Nat.lt_irrefl 0)

/-- The staging copies' semaphores are below every other. -/
theorem lv_stage (c : Dev nD) (s : DmaSem sig) (h : s.val < 3) : lv ((c : Thread nD τ), .dma s) () = 0 := by
  have hr : role (.dma s) = .other := by
    unfold role
    dsimp only
    rw [dif_neg (by omega), dif_neg (by omega)]
  unfold lv
  rw [hr]

/-- The buffers the kernel does not see. -/
def aside : Finset (DevRef τ sig) := {devRef main_arg1}

theorem hin0 (c : Dev nD) : iprop(Pipeline.scopedRest (Pipeline.pin (pcfgs (F := F)) adm 0).spec c ∗ (∃ r, prngReg c r)
    ∗ StableHlo.held (c.tc : Thread nD τ) ∅ (V₁ m c) ∗ entered m c) ⊢ (pdats m 0 c).Φ 0 := by
  rw [show (pdats m 0 c).Φ 0 = iprop(entered m c ∗ commAny c ∗ ∃ r, prngReg c r) from rfl, scoped_eq]
  iintro ⟨Hs, Hp, -, HE⟩
  isplitl [HE]; · iexact HE
  isplitl [Hs] <;> iassumption

theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ semVal (barCell c) 0) := by
  rw [show (pdats m 0 c).Φ (Fin.last _) = iprop(semVal (barCell c) 0 ∗ ownZero c ∗ commAny c ∗ ∃ r, prngReg c r) from rfl, scoped_eq]
  unfold ownZero StableHlo.held
  rw [BI.bigSep_empty]
  iintro ⟨Hb, Hz, Hs, Hp⟩
  isplitl [Hs]; · iexact Hs
  isplitl [Hp]; · iexact Hp
  isplitr; · iempintro
  isplitl [Hz]; · unfold Pipeline.ownSems0; iexact Hz
  iexact Hb

set_option backward.isDefEq.respectTransparency.types false in
/-- The kernel's region: entered with what the launch gave, left with the barrier at zero. -/
def region0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ aside (Finset.empty_subset _) layout rfl (fun c => (body_obligation m c).loose)
    (fun _ => 0) O₀ (fun c => (owed_first m c).trans (zero_add _).symm) (owed_last m) (fun _ => rfl) (share_eq m)
    (V₁ m) (V₂ m)
    (fun c b hb => by
      obtain rfl := Finset.mem_singleton.mp (Finset.mem_sdiff.mp hb).1
      exact V₂_ne m c main_arg1 (by decide))
    (start m) (fun c => semVal (barCell c) 0) (entered m) (fun c => semVal (barCell c) 0) (enter m) (hin0 m) (hout0 m)
    (fun c => by iintro H; imodintro; iexact H)
    (fun _ => 0)
    ⟨fun c w s => by rw [L_tc]; exact Finset.mem_singleton_self _,
      fun c w s => by
        fin_cases w <;> fin_cases s
        · exact (lv_stage c (sem0_0 0) (by decide)).le
        · exact (lv_stage c (sem0_1 0) (by decide)).le
        · exact (lv_stage c (sem0_2 0) (by decide)).le,
      fun c t g i h => owed_above m c t g i h⟩
    (fun _ => iprop(emp))
    (fun _ _ => rfl)
    (fun c w => by
      fin_cases w
      · exact ((dat0 m c).arrAt_in 0 rfl _).trans (V₂_ne m c main_arg0 (by decide)).symm
      · exact ((dat0 m c).arrAt_in 1 rfl _).trans (V₂_ne m c main_v1 (by decide)).symm
      · exact (final_2 m c).trans (V₂_out m c).symm)

end Cert.Norm

end
-- ==== Proof.Launch.lean ====
/-
  The launch and the run: every device is dealt the tokens of what it will pay, every counter starts at zero, and the
  program's run leaves the arguments as they were, the result as the body computes it, and every semaphore at zero.
-/
module

public import proofs.«01_k».proof.Proof.Region
public import proofs.«01_k».proof.Proof.Gen.KernelIdeal.Frame

@[expose] public section

set_option maxRecDepth 16384

noncomputable section

namespace Cert.Norm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Cert.KernelIdeal Cert.KernelIdeal.Gen

variable {F : FTy → Type} [FloatOps F]

local notation "𝕄" => MT nD τ sig Unit (Elt F) ℕ UU ℕ

variable (m : (l : Loc nD τ sig) → Buf (Elt F) l) (ρ : Dev nD → PrngReg)

/-! ## The buffers of a device -/

/-- The buffers that outlive the kernel. -/
def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_eq (c : Dev nD) (W : Valuation τ sig (Elt F)) : (StableHlo.held (c : Thread nD τ) bufs W : sProp 𝕄)
    = iprop(bufPts c main_arg0 (W (devRef main_arg0)) ∗ bufPts c main_arg1 (W (devRef main_arg1))
      ∗ bufPts c main_v1 (W (devRef main_v1)) ∗ bufPts c main_v2 (W (devRef main_v2))) := by
  unfold StableHlo.held
  rw [bigSep_eq_bigSepL_of_eq [devRef main_arg0, devRef main_arg1, devRef main_v1, devRef main_v2] (by decide) (by decide)]
  rfl

theorem arrays_sub : Pipeline.arrRefs (τ := τ) spec0 ⊆ bufs := by decide
theorem arrays_rest : bufs \ Pipeline.arrRefs (τ := τ) spec0 = aside := by decide

/-- The arrays of the kernel and the buffer it does not see. -/
theorem bufs_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) aside W) := by
  rw [StableHlo.held_sub_split _ arrays_sub, arrays_rest]

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## The tokens -/

/-- The semaphores of the tokens and the labels: the barrier's by distance, one for each copy sent, one for each arrival. -/
abbrev tokSem : Fin 3 × Fin 16 → SemLoc sig × Fin 16
  | (0, j) => (.reg barS, j)
  | (1, o) => (.dma (sendS o), 0)
  | (2, o) => (.dma (recvS o), 0)

theorem tokSem_inj : Function.Injective tokSem := by decide

def tokEmb : Dev nD × (Fin 3 × Fin 16) ↪ GSem nD τ sig × ℕ × Fin 16 :=
  ⟨fun ck => (((ck.1 : Thread nD τ), (tokSem ck.2).1), 0, (tokSem ck.2).2), fun _ _ h =>
    Prod.ext (congrArg (fun t : GSem nD τ sig × ℕ × Fin 16 => t.1.1.1) h)
      (tokSem_inj (Prod.ext (congrArg (fun t : GSem nD τ sig × ℕ × Fin 16 => t.1.2) h) (congrArg (fun t : GSem nD τ sig × ℕ × Fin 16 => t.2.2) h)))⟩

/-- Every token. -/
def allToks : Finset (GSem nD τ sig × ℕ × Fin 16) := Finset.univ.map tokEmb

/-- The tokens of the payments TO device `c`. -/
def tokensAt (c : Dev nD) : sProp 𝕄 :=
  iprop((bigSep Finset.univ fun j : Fin 16 => dutyTok ER (barCell c) 0 j) ∗ (bigSep Finset.univ fun o : Fin 16 => dutyTok ER (sendCell c o) 0 0)
    ∗ bigSep Finset.univ fun o : Fin 16 => dutyTok ER (recvCell c o) 0 0)
/-- The tokens of the payments BY device `c`. -/
def tokensOf (c : Dev nD) : sProp 𝕄 :=
  iprop((bigSep others fun o => dutyTok ER (barCell (c + o)) 0 (-o)) ∗ (bigSep others fun o => dutyTok ER (sendCell c o) 0 0)
    ∗ bigSep others fun o => dutyTok ER (recvCell (c + o) o) 0 0)
/-- The same, with every distance. -/
def tokensThere (c : Dev nD) : sProp 𝕄 :=
  iprop((bigSep Finset.univ fun o : Fin 16 => dutyTok ER (barCell (c + o)) 0 (-o))
    ∗ (bigSep Finset.univ fun o : Fin 16 => dutyTok ER (sendCell c o) 0 0) ∗ bigSep Finset.univ fun o : Fin 16 => dutyTok ER (recvCell (c + o) o) 0 0)

theorem allToks_eq : bigSep allToks (fun x => (dutyTok ER x.1 x.2.1 x.2.2 : sProp 𝕄)) = bigSep Finset.univ fun c : Dev nD => tokensAt c := by
  unfold allToks
  rw [bigSep_map, bigSep_univ_prod]
  refine bigSep_congr fun c _ => ?_
  rw [bigSep_univ_prod]
  unfold tokensAt
  rw [show (Finset.univ : Finset (Fin 3)) = {0, 1, 2} from by decide, bigSep_insert (by decide), bigSep_insert (by decide), bigSep_singleton]
  rfl

/-- What every device holds for each distance, passed on to the device at that distance. -/
theorem around (Φ : Dev nD → Fin 16 → sProp 𝕄) :
    (bigSep Finset.univ fun c => bigSep Finset.univ fun o => Φ c o) = bigSep Finset.univ fun c => bigSep Finset.univ fun o => Φ (c + o) o := by
  rw [BI.bigSep_univ_comm, BI.bigSep_univ_comm fun c o => Φ (c + o) o]
  exact bigSep_congr fun o _ => bigSep_univ_equiv (Equiv.addRight (o : Dev nD)) fun c => Φ c o

/-- The tokens dealt to those who pay. -/
theorem deal : (bigSep Finset.univ fun c : Dev nD => (tokensAt c : sProp 𝕄)) ⊢ bigSep Finset.univ fun c : Dev nD => tokensOf c := by
  have h : (bigSep Finset.univ fun c : Dev nD => (tokensAt c : sProp 𝕄))
      = bigSep Finset.univ fun c : Dev nD => tokensThere c := by
    unfold tokensAt tokensThere
    rw [bigSep_sep', bigSep_sep', bigSep_sep', bigSep_sep', around fun c o => dutyTok ER (recvCell c o) 0 0,
      ← around fun c o => dutyTok ER (barCell c) 0 (-o)]
    congr 1
    exact bigSep_congr fun c _ => bigSep_univ_equiv (Equiv.neg (Fin 16)) fun j => dutyTok ER (barCell c) 0 j
  rw [h]
  refine show _ ⊢ _ from bigSep_mono fun c _ => show tokensThere c ⊢ tokensOf c from ?_
  unfold tokensThere
  rw [apart, apart fun o => dutyTok ER (sendCell c o) 0 0, apart fun o => dutyTok ER (recvCell (c + o) o) 0 0]
  unfold tokensOf
  iintro ⟨⟨-, HB⟩, ⟨-, HS⟩, -, HV⟩
  isplitl [HB]; · iexact HB
  isplitl [HS] <;> iassumption

/-! ## The credit of the launch -/

theorem credit_bar (c : Dev nD) : ∀ os : List (Fin 16),
    (Pipeline.launchCred (fun d => owedBar d os) c : sProp 𝕄) ⊢ cred (tallyAt (barCell c) () os.length)
  | [] => by
    show (Pipeline.launchCred (fun _ => 0) c : sProp 𝕄) ⊢ cred (tallyAt (barCell c) () 0)
    rw [Pipeline.launchCred_zero, tallyAt_zero, cred_zero]
  | o :: os => by
    show (Pipeline.launchCred (fun d => owedBar d os + tallyAt (barCell (d + o)) () 1) c : sProp 𝕄) ⊢ cred (tallyAt (barCell c) () (os.length + 1))
    rw [Pipeline.launchCred_add, ← tallyAt_add]
    refine BIBase.Entails.trans ?_ (cred_add _ _).2
    exact BIClass.sep_mono (credit_bar c os) (Pipeline.launchCred_tallyAt (.reg barS) (fun d => d + o) (fun d => d - o)
      (fun d => dev_sub_add d o) (fun d => dev_add_sub d o) () 1 c)

theorem credit_recv (c : Dev nD) : ∀ os : List (Fin 16),
    (Pipeline.launchCred (fun d => owedRecv d os) c : sProp 𝕄) ⊢ bigSepL os fun o => cred (tallyAt (recvCell c o) () N)
  | [] => by
    show (Pipeline.launchCred (fun _ => 0) c : sProp 𝕄) ⊢ _
    rw [Pipeline.launchCred_zero]
    exact BI.Entails.refl _
  | o :: os => by
    show (Pipeline.launchCred (fun d => owedRecv d os + tallyAt (recvCell (d + o) o) () N) c : sProp 𝕄) ⊢ _
    rw [Pipeline.launchCred_add, bigSepL_cons']
    refine BIBase.Entails.trans (BIClass.sep_mono (credit_recv c os) (Pipeline.launchCred_tallyAt (.dma (recvS o)) (fun d => d + o) (fun d => d - o)
      (fun d => dev_sub_add d o) (fun d => dev_add_sub d o) () N c)) ?_
    iintro ⟨H1, H2⟩
    isplitl [H2] <;> iassumption

/-- A device may count on what the others owe it. -/
theorem credit (c : Dev nD) : (Pipeline.launchCred O₀ c : sProp 𝕄) ⊢ credits c := by
  rw [show (O₀ : Dev nD → CellTallies nD τ sig Unit) = fun d => owedRecv d offs + owedBar d offs from rfl, Pipeline.launchCred_add]
  unfold credits
  rw [listed]
  iintro ⟨HV, HB⟩
  isplitl [HB]
  · iapply (credit_bar c offs) $$ HB
  · iapply (credit_recv c offs) $$ HV

/-! ## The ghost state of the launch -/

/-- A resource kept on device 0 until everything is dealt. -/
def parked (P : sProp 𝕄) (c : Dev nD) : sProp 𝕄 := if c = 0 then P else iprop(emp)
theorem parked_eq (P : sProp 𝕄) : bigSep Finset.univ (parked P) = P := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- The launch's element: the staging copies' and the exchange's. -/
def u₀ : UU :=
  (initOf (Pipeline.cells (Pipeline.pin (pcfgs (F := F)) adm) cells_inj) (Pipeline.launchToks (Pipeline.pin (pcfgs (F := F)) adm) cells_inj),
    launchOf barCells ownCells allToks)

/-- What a device holds beside its buffers from the launch to the kernel. -/
def beside (c : Dev nD) : sProp 𝕄 := iprop(start m c ∗ (∃ r, prngReg c r) ∗ ∃ W, owes (c : Thread nD τ) (O₀ c) W)

/-- A device's own rights. -/
def rights (c : Dev nD) : sProp 𝕄 :=
  iprop(atPos ER (barCell c) 0 ∅ 0 ∗ (bigSep Finset.univ fun k => openTok ER ((c : Thread nD τ), osem k)) ∗ tokensOf c)
/-- What a device has at launch that is not of the exchange. -/
def bundle (c : Dev nD) : sProp 𝕄 :=
  iprop(StableHlo.held (c : Thread nD τ) bufs (V₀ m c) ∗ credits c ∗ owes (c : Thread nD τ) (O₀ c) ∅ ∗ ∃ r, prngReg c r)

abbrev T₀ (c : Dev nD) : sProp 𝕄 := iprop(StableHlo.held (c : Thread nD τ) bufs (V₀ m c) ∗ beside m c)
abbrev Tₙ (c : Dev nD) : sProp 𝕄 := iprop(StableHlo.held (c : Thread nD τ) bufs (V₂ m c) ∗ semVal (barCell c) 0)

theorem T₀_intro (κ : GSem nD τ sig → ℕ) (c : Dev nD) : iprop(records (rows m) κ ∗ (rights c ∗ bundle m c)) ⊢ T₀ m c := by
  unfold rights bundle T₀ beside start ghost tokensOf
  iintro ⟨#HR, ⟨Ha, Ho, HtB, HtS, HtV⟩, Hh, Hc, HO, Hp⟩
  isplitl [Hh]; · iexact Hh
  isplitr [HO Hp]
  · isplitr [Hc]
    · iexists κ
      isplitr; · iexact HR
      isplitl [Ha]; · iexact Ha
      isplitl [Ho]; · iexact Ho
      isplitl [HtB]; · iexact HtB
      isplitl [HtS] <;> iassumption
    · iexact Hc
  isplitl [Hp]; · iexact Hp
  iexists ∅; iexact HO

/-- The launch's step: the cells are set up and every device is dealt its rights. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c)
          ∗ parked (BI.own (ER (launchOf barCells ownCells allToks))) c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked (BI.own (ER (launchOf barCells ownCells allToks))) c)
      ⊢ (iprop(bundle m c ∗ (semVal (barCell c) 0 ∗ parked (BI.own (ER (launchOf barCells ownCells allToks))) c)) : sProp 𝕄) := by
    rw [show unscopedBufs c (fun b => m ((c : Thread nD τ).loc b)) = StableHlo.held (c : Thread nD τ) bufs (V₀ m c) from unscopedBufs_held c (V₀ m c),
      unscopedSems0_eq]
    unfold bundle
    iintro ⟨Hh, Hus, HO, Hcr, Hp, HG⟩
    ihave Hc := (credit (F := F) c) $$ Hcr
    isplitr [Hus HG]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun k => (openTok ER ((c : Thread nD τ), osem k) : sProp 𝕄)) :=
    Entails.of_eq (by rw [bigSep_map, bigSep_univ_prod]; rfl)
  iintro ⟨H, -⟩
  ihave H := (show _ ⊢ (bigSep Finset.univ fun c : Dev nD => iprop(bundle m c ∗ (semVal (barCell c) 0
      ∗ parked (BI.own (ER (launchOf barCells ownCells allToks))) c)) : sProp 𝕄) from bigSep_mono fun c _ => hcore c) $$ H
  ihave H := bigSep_unpair $$ H; icases H with ⟨HB, H⟩
  ihave H := bigSep_unpair $$ H; icases H with ⟨Hv, HG⟩
  ihave Hu := (Entails.of_eq (parked_eq (F := F) (BI.own (ER (launchOf barCells ownCells allToks))))) $$ HG
  imod (Rounds.fund_launch ER (sched (rows m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records (rows m) κ) (Φ := fun c => iprop(rights c ∗ bundle m c)) fun c _ => T₀_intro m κ c)
  isplitr
  · unfold records
    isplitr; · iexact Hinv
    iexact Hr
  iapply bigSep_pair
  isplitr [HB]
  · unfold rights
    iapply bigSep_pair; isplitl [Hat]; · iapply hat $$ Hat
    iapply bigSep_pair; isplitl [Hopen]; · iapply hopen $$ Hopen
    iapply (deal (F := F))
    iapply (Entails.of_eq (allToks_eq (F := F))) $$ Htok
  · iexact HB

/-! ## The program as two segments -/

theorem ops_sub : ∀ op ∈ (hostOps0 : List (HloOp τ sig (Elt F))), op.bufs ⊆ bufs := fun op h => by
  obtain rfl := List.mem_singleton.mp h
  show ({devRef main_arg1, devRef main_v1} : Finset (DevRef τ sig)) ⊆ bufs; decide

/-- The host's line before the kernel. -/
def seg0 : Pipeline.HostSeg (Ix := Unit) (Name := ℕ) (U := UU) (Lvl := ℕ) (pcfgs (F := F)) defs₀ 𝒱₀ L lv :=
  Pipeline.HostSeg.ofOps _ _ _ _ _ bufs hostOps0 ops_sub (fun op h => by obtain rfl := List.mem_singleton.mp h; rfl) (V₀ m) (beside m)

def segs : List (Pipeline.Seg (pcfgs (F := F)) adm (pdats m) () defs₀ 𝒱₀ L lv) := [.host (seg0 m), .region (region0 m)]

theorem region_pre (c : Dev nD) : iprop(StableHlo.held (c : Thread nD τ) bufs (V₁ m c) ∗ beside m c) ⊢ (region0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) aside (V₁ m c) ∗ emp) ∗ start m c ∗ ∃ Wd, owes (c : Thread nD τ) (0 + O₀ c) Wd)
  rw [zero_add, bufs_split]
  unfold beside
  iintro ⟨⟨Ha, Hr⟩, Hs, Hp, HO⟩
  isplitl [Ha]; · iexact Ha
  isplitl [Hp]; · iexact Hp
  isplitl [Hr]
  · isplitl [Hr]; · iexact Hr
    iempintro
  isplitl [Hs] <;> iassumption

theorem region_post (c : Dev nD) : (region0 m).post c ⊢ iprop(Tₙ m c ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) aside (V₂ m c) ∗ emp) ∗ semVal (barCell c) 0
    ∗ ∃ Wd, owes (c : Thread nD τ) (0 : CellTallies nD τ sig Unit) Wd) ⊢ _
  unfold Tₙ
  rw [bufs_split]
  iintro ⟨Ha, -, ⟨Hr, -⟩, Hb, HO⟩
  isplitr [HO]
  · isplitl [Ha Hr]; · isplitl [Ha] <;> iassumption
    iexact Hb
  iexact HO

/-! ## The run -/

theorem unscoped_eq : ∀ sm : SemLoc sig, sm.isScoped .tc = false → sm = .reg barS := by decide

theorem V₁_arg0 (c : Dev nD) : V₁ m c (devRef main_arg0) = m ((c : Thread nD τ).loc main_arg0) := V_main_arg0 m c
theorem V₁_arg1 (c : Dev nD) : V₁ m c (devRef main_arg1) = m ((c : Thread nD τ).loc main_arg1) := V_main_arg1 m c

set_option backward.isDefEq.respectTransparency.types false in
/-- THE RUN, over any float values: every execution ends, the arguments are unchanged, the result on every device is what
    the body computes from every device's rows, and every semaphore is at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = result m c) ∧ r.2.sem = fun _ => 0) :=
  Pipeline.θ_run_regions_kit_sems (pcfgs (F := F)) adm (pdats m) () cells_inj EP defs₀ 𝒱₀ L lv m ρ main (segs m)
    (fun c Q => by rw [main_segs adm (pdats m) () 𝒱₀ L lv (seg0 m) (region0 m) rfl c]; exact Entails.refl _)
    (by simp only [segs, Pipeline.Seg.pipes_host, Pipeline.Seg.pipes_region, Pipeline.Seg.pipes_nil]; decide)
    (O₀ := O₀) (hL := L_of_ne) (G := parked (BI.own (ER (launchOf barCells ownCells allToks)))) (u₀ := u₀ (F := F))
    (hu₀ := by
      unfold u₀
      iintro Hu
      ihave H := (ownU_pair _ _) $$ Hu
      icases H with ⟨HP, HX⟩
      imodintro
      isplitl [HP]; · iexact HP
      rw [parked_eq]; iexact HX)
    (T₀ := T₀ m) (Tₙ := Tₙ m)
    (hch := ⟨fun _ => .rfl, region_pre m, region_post m⟩)
    (hinit := init m ρ)
    (QY := fun c s => (s.mem ((c : Thread nD τ).loc main_arg0) = V₂ m c (devRef main_arg0) ∧ s.mem ((c : Thread nD τ).loc main_arg1) = V₂ m c (devRef main_arg1)
      ∧ s.mem ((c : Thread nD τ).loc main_v2) = V₂ m c (devRef main_v2)) ∧ s.sem (barCell c) = 0)
    (hfin := fun c s' => by
      dsimp only [Tₙ]; rw [bufs_eq]
      iintro ⟨⟨⟨Hx, Hg, -, Ho⟩, Hb⟩, HSI⟩
      icombine HSI Hx gives %hx
      icombine HSI Hg gives %hg
      icombine HSI Ho gives %ho
      icombine HSI Hb gives %hb
      imodintro
      isplitr
      · ipureintro
        exact ⟨⟨Buf.eq_of_forall_mem_univ hx, Buf.eq_of_forall_mem_univ hg, Buf.eq_of_forall_mem_univ ho⟩, by simpa using hb⟩
      iexact HSI)
    (hQ := fun s h hs => ⟨fun c => by
        obtain ⟨⟨hx, hg, ho⟩, -⟩ := h c
        exact ⟨hx.trans ((V₂_ne m c main_arg0 (by decide)).trans (V₁_arg0 m c)), hg.trans ((V₂_ne m c main_arg1 (by decide)).trans (V₁_arg1 m c)),
          ho.trans (V₂_out m c)⟩,
      sem_eq_zero hs fun c sm hsm => by
        obtain rfl := unscoped_eq sm hsm
        exact (h c).2⟩)

end Cert.Norm

end
-- ==== Proof.Pay.lean ====
/-
  The kernel's arithmetic read at one element, over the extended reals: what a device sends, and what it stores.
-/
module

public import proofs.«01_k».proof.Proof.Body
public import Idealize.ShloMosaic.Lib.Pointwise
public import Idealize.ShloMosaic.Lib.Pipeline.ValueKit.Acc

@[expose] public section

set_option maxRecDepth 16384

noncomputable section

namespace Cert.Norm

open Idealize.ShloMosaic
open Cert.KernelIdeal Cert.KernelIdeal.Gen

/-- The number a row has when it is the `j`-th of group `i` of 128 rows. -/
abbrev rowOf (i : Fin 16) (j : Fin 128) : Fin 2048 := ⟨i.val * 128 + j.val, by omega⟩

/-- The sum of the squares of one row of a block. -/
def squares (x : Vec Ideal S2048x1024 .f32) (r : Fin 2048) : EReal := ∑ k : Fin 1024, x (ix2 r k) * x (ix2 r k)

/-- What a device sends: the sums of the squares of its rows, the rows in groups of 128. -/
theorem sent_apply (x : Vec Ideal S2048x1024 .f32) (u : Fin 1) (i : Fin 16) (j : Fin 128) :
    k0_pay2 x (ix3 u i j) = squares x (rowOf i j) := by
  unfold squares
  pointwise [k0_pay2, k0_pay1]

/-- What a device stores, from its rows, its scale and what it has received. -/
theorem stored_apply (x : Vec Ideal S2048x1024 .f32) (g : Vec Ideal S1x1024 .f32) (w : Vec Ideal S16x16x128 .bf16)
    (r : Fin 2048) (k : Fin 1024) :
    k0_pay4 (k0_pay3 (k0_pay1 x) g) w (ix2 r k)
      = x (ix2 r k) * g (ix2 0 k)
        * Ideal.rsqrt (Ideal.div (∑ s : Fin 16, w (ix3 s ⟨r.val / 128, by omega⟩ ⟨r.val % 128, by omega⟩))
            (Ideal.ofBits .f32 0x46800000#32) + Ideal.ofBits .f32 0x3727C5AC#32) := by
  pointwise [k0_pay4, k0_pay3, k0_pay1]

/-- A slot's element, by its coordinates. -/
theorem commFull_apply (X : Dev nD → Vec Ideal S2048x1024 .f32) (c : Dev nD) (s i : Fin 16) (j : Fin 128) :
    commFull X c (ix3 s i j) = squares (X (c - s)) (rowOf i j) := by
  refine Eq.trans ?_ (sent_apply (X (c - s)) 0 i j)
  refine congrArg (k0_pay2 (X (c - s))) (funext fun a => ?_)
  match a with
  | 0 => rfl
  | 1 => rfl
  | 2 => rfl

/-- Two devices are at the distance that leads from one to the other. -/
theorem dev_sub_sub (c : Dev nD) (s : Fin 16) : c - (c - s) = s := by revert c s; decide

/-- The sum over the slots is the sum over the devices, whichever device sums. -/
theorem sum_slots (c : Dev nD) (f : Fin 16 → EReal) : ∑ s : Fin 16, f (c - s) = ∑ d : Fin 16, f d :=
  Fintype.sum_bijective (fun s : Fin 16 => (c - s : Fin 16))
    (Function.Involutive.bijective fun s => dev_sub_sub c s) _ _ fun _ => rfl

/-- What device `c` stores, from every device's rows and its own scale. -/
theorem outOf_apply (X : Dev nD → Vec Ideal S2048x1024 .f32) (G : Vec Ideal S1x1024 .f32) (c : Dev nD)
    (r : Fin 2048) (k : Fin 1024) :
    outOf X G c (ix2 r k)
      = X c (ix2 r k) * G (ix2 0 k)
        * Ideal.rsqrt (Ideal.div (∑ d : Fin 16, squares (X d) r) (Ideal.ofBits .f32 0x46800000#32)
            + Ideal.ofBits .f32 0x3727C5AC#32) := by
  have hr : rowOf ⟨r.val / 128, by omega⟩ ⟨r.val % 128, by omega⟩ = r := Fin.ext (by show r.val / 128 * 128 + r.val % 128 = r.val; omega)
  have hsum : (∑ s : Fin 16, commFull X c (ix3 s ⟨r.val / 128, by omega⟩ ⟨r.val % 128, by omega⟩) : EReal) = ∑ d : Fin 16, squares (X d) r :=
    (Finset.sum_congr rfl fun s _ => (commFull_apply X c s _ _).trans (by rw [hr])).trans (sum_slots c fun d => squares (X d) r)
  exact (stored_apply (X c) G (commFull X c) r k).trans (by rw [hsum])

end Cert.Norm

end
-- ==== Proof.Root.lean ====
/-
  Multiplying by the reciprocal of a square root and dividing by the square root are the same over the extended reals when
  the radicand is positive, and the radicand of this problem always is.
-/
module

public import Idealize.ShloMosaic.Lib.IdealHost

@[expose] public section

noncomputable section

namespace Cert.Norm

open Idealize.ShloMosaic

/-- For a positive radicand, infinity included, a product with the reciprocal root is the quotient by the root. -/
theorem mul_rsqrt (y t : EReal) (ht : 0 < t) : y * Ideal.rsqrt t = Ideal.div y (Ideal.sqrt t) := by
  induction t with
  | bot => exact absurd ht (by simp)
  | top =>
    rw [Ideal.rsqrt_top, Ideal.sqrt_top]
    unfold Ideal.div
    rw [if_neg (by simp), EReal.inv_top]
  | coe r =>
    have hr : 0 < r := by exact_mod_cast ht
    have hs : ((Real.sqrt r : ℝ) : EReal) ≠ 0 := by exact_mod_cast (Real.sqrt_pos.mpr hr).ne'
    rw [Ideal.rsqrt_coe, Ideal.sqrt_coe, if_neg (not_lt.mpr hr.le), if_neg (not_lt.mpr hr.le), if_neg hr.ne']
    unfold Ideal.div
    rw [if_neg hs, EReal.coe_inv]

/-- A square is not negative. -/
theorem square_nonneg (y : EReal) : 0 ≤ y * y := by
  rcases le_total 0 y with h | h
  · exact EReal.mul_nonneg h h
  · have hn : 0 ≤ -y := EReal.neg_nonneg.mpr h
    have := EReal.mul_nonneg hn hn
    rwa [neg_mul_neg] at this

/-- The number of columns of the whole array. -/
theorem ofBits_columns : Ideal.ofBits .f32 0x46800000#32 = ((16384 : ℝ) : EReal) := by
  simp [Ideal.ofBits, Ideal.ieee, -EReal.coe_mul]; norm_num

/-- The small term added to the mean is positive. -/
theorem ofBits_eps_pos : 0 < Ideal.ofBits .f32 0x3727C5AC#32 := by
  simp [Ideal.ofBits, Ideal.ieee, -EReal.coe_mul]

/-- The mean of the squares plus the small term is positive. -/
theorem radicand_pos (s : EReal) (hs : 0 ≤ s) :
    0 < Ideal.div s (Ideal.ofBits .f32 0x46800000#32) + Ideal.ofBits .f32 0x3727C5AC#32 := by
  refine lt_of_lt_of_le ofBits_eps_pos (le_add_of_nonneg_left ?_)
  rw [ofBits_columns]
  unfold Ideal.div
  rw [if_neg (by exact_mod_cast (by norm_num : (16384 : ℝ) ≠ 0)), ← EReal.coe_inv]
  exact EReal.mul_nonneg hs (by exact_mod_cast (by norm_num : (0 : ℝ) ≤ (16384 : ℝ)⁻¹))

end Cert.Norm

end
-- ==== Proof.Whole.lean ====
/-
  The equation: when every device's rows and scale are its blocks of the whole arrays, what device `c` stores is its block
  of what the plain program computes.
-/
module

public import proofs.«01_k».proof.Proof.Pay
public import proofs.«01_k».proof.Proof.Root
public import proofs.«01_k».proof.Proof.Gen.ReferenceIdeal
public import Idealize.ShloMosaic.Lib.Layout

@[expose] public section

set_option maxRecDepth 16384

noncomputable section

namespace Cert.Norm

open Idealize.ShloMosaic
open Cert.ReferenceIdeal Cert.ReferenceIdeal.Gen

/-- The whole result: what the plain program's operations compute of the whole arrays. -/
def whole (A : FVec Ideal S2048x16384 .f32) (G : FVec Ideal S16384 .f32) : FVec Ideal S2048x16384 .f32 :=
  Host.divf (mulf (broadcastInDim S2048x16384 ![0, 1] bcast_S1x16384_S2048x16384_0_1 (broadcastInDim S1x16384 ![1] bcast_S16384_S1x16384_1 G)) A)
    (broadcastInDim S2048x16384 ![0, 1] bcast_S2048x1_S2048x16384_0_1
      (Host.sqrt (addf
        (Host.divf (broadcastInDim S2048x1 ![0] bcast_S2048_S2048x1_0
            (Host.reduceAdd (mulf A A) (constant S_ .f32 0x00000000#32) reducesTo_S2048x16384_S2048_d1 h_S_))
          (broadcastInDim S2048x1 ![] bcast_S_S2048x1 (constant S_ .f32 0x46800000#32)))
        (broadcastInDim S2048x1 ![] bcast_S_S2048x1 (constant S_ .f32 0x3727C5AC#32)))))

/-- The whole result at one element. -/
theorem whole_apply (A : FVec Ideal S2048x16384 .f32) (G : FVec Ideal S16384 .f32) (r : Fin 2048) (k : Fin 16384) :
    whole A G (ix2 r k)
      = Ideal.div (G (ix1 k) * A (ix2 r k))
          (Ideal.sqrt (Ideal.div (∑ l : Fin 16384, A (ix2 r l) * A (ix2 r l)) (Ideal.ofBits .f32 0x46800000#32)
            + Ideal.ofBits .f32 0x3727C5AC#32)) := by
  pointwise [whole]

/-- Column `k` of device `c`'s block, in the whole array. -/
abbrev colOf (c : Fin 16) (k : Fin 1024) : Fin 16384 := ⟨c.val * 1024 + k.val, by omega⟩

/-- The rows' block at one element. -/
theorem rows_block (A : FVec Ideal S2048x16384 .f32) (c : Fin 16) (r : Fin 2048) (k : Fin 1024) :
    (Layout.block ⟨2, ![2048, 1024]⟩ ⟨2, ![2048, 16384]⟩ 1 16 c A) (ix2 r k) = A (ix2 r (colOf c k)) := by
  refine congrArg A (funext fun a => Fin.ext ?_)
  rw [Layout.Tiles.idx_val]
  match a with
  | 0 => rfl
  | 1 => rfl

/-- The scale's block at one element. -/
theorem scale_block (G : FVec Ideal S16384 .f32) (c : Fin 16) (k : Fin 1024) :
    (Layout.block ⟨1, ![1024]⟩ ⟨1, ![16384]⟩ 0 16 c G) (ix1 k) = G (ix1 (colOf c k)) := by
  refine congrArg G (funext fun a => Fin.ext ?_)
  rw [Layout.Tiles.idx_val]
  match a with
  | 0 => rfl

/-- The devices' sums of squares of a row add up to the whole row's. -/
theorem sum_squares (A : FVec Ideal S2048x16384 .f32) (X : Fin 16 → FVec Ideal ⟨2, ![2048, 1024]⟩ .f32)
    (hX : ∀ c, X c = Layout.block ⟨2, ![2048, 1024]⟩ ⟨2, ![2048, 16384]⟩ 1 16 c A) (r : Fin 2048) :
    ∑ d : Fin 16, squares (X d) r = ∑ l : Fin 16384, A (ix2 r l) * A (ix2 r l) := by
  rw [← Fin.sum_mul_add_fin 16 1024 fun l : Fin 16384 => A (ix2 r l) * A (ix2 r l)]
  refine Finset.sum_congr rfl fun d _ => Finset.sum_congr rfl fun k _ => ?_
  rw [hX d, rows_block]

/-- THE EQUATION: on blocks of the whole arrays, device `c` stores its block of the whole result. -/
theorem outOf_eq_block (A : FVec Ideal S2048x16384 .f32) (G : FVec Ideal S16384 .f32)
    (X : Fin 16 → FVec Ideal ⟨2, ![2048, 1024]⟩ .f32) (g : FVec Ideal ⟨2, ![1, 1024]⟩ .f32) (c : Fin 16)
    (hX : ∀ d, X d = Layout.block ⟨2, ![2048, 1024]⟩ ⟨2, ![2048, 16384]⟩ 1 16 d A)
    (hg : ∀ k : Fin 1024, g (ix2 0 k) = G (ix1 (colOf c k))) :
    (outOf (F := Ideal) X g c : FVec Ideal ⟨2, ![2048, 1024]⟩ .f32) = Layout.block ⟨2, ![2048, 1024]⟩ ⟨2, ![2048, 16384]⟩ 1 16 c (whole A G) := by
  funext j
  obtain ⟨r, k, rfl⟩ : ∃ (r : Fin 2048) (k : Fin 1024), j = ix2 r k := ⟨j 0, j 1, eq_ix2 j⟩
  refine (outOf_apply X g c r k).trans ?_
  rw [rows_block, whole_apply, sum_squares A X hX, hg, hX c, rows_block, mul_comm (A _) (G _)]
  exact mul_rsqrt _ _ (radicand_pos _ (Finset.sum_nonneg fun l _ => square_nonneg _))

end Cert.Norm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Whole
public import Idealize.ShloMosaic.Adequacy
public import Idealize.ShloMosaic.Init

@[expose] public section

set_option maxRecDepth 16384

noncomputable section

namespace Cert.Proof

open Idealize.ShloMosaic Idealize.SL.Sem

/-- The kernel over any float values: `Cert.Norm.run_main` with the result dropped. -/
theorem frame_any {F : FTy → Type} [FloatOps F]
    (m : (l : Loc Cert.KernelIdeal.nD Cert.KernelIdeal.τ Cert.KernelIdeal.sig) → Buf (Elt F) l) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩)
    (Cert.Norm.run_main m ρ)

/-- The two printed texts of the kernel's body are one. -/
theorem bodies_eq : Cert.Kernel.defs₀ (F := Bits) = Cert.KernelIdeal.defs₀ (F := Bits) := by
  refine congrArg (Defs.onTc (nD := 16)) (funext fun l => funext fun a => ?_)
  match l, a with
  | 0, (_, _) => exact rfl

/-- So the programs' bodies are one. -/
theorem defs_eq : Cert.Kernel.defs (F := Bits) = Cert.KernelIdeal.defs (F := Bits) :=
  congrArg (Pipeline.defs (Cert.KernelIdeal.pcfgs (F := Bits))) bodies_eq

/-- The kernel over bit patterns: its text is the idealization's. -/
theorem frame_kernel : Cert.quiescent_Kernel := fun m ρ _ => by
  have h := frame_any (F := Bits) m ρ
  rw [← defs_eq] at h
  exact h

/-- The kernel over the extended reals: the same run. -/
theorem frame_kernelIdeal : Cert.quiescent_KernelIdeal := fun m ρ _ => frame_any (F := Ideal) m ρ

/-- The plain program: its run, with the result dropped; it has no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- No operation was rewritten. -/
theorem preserves : Cert.preserves_Kernel_KernelIdeal := trivial

/-- The scale the kernel reads is the argument with a unit axis put in front. -/
theorem scale_apply (m : (l : Loc Cert.KernelIdeal.nD Cert.KernelIdeal.τ Cert.KernelIdeal.sig) → Buf (Elt Ideal) l)
    (c : Dev Cert.KernelIdeal.nD) (k : Fin 1024) :
    Cert.Norm.scale m c (ix2 0 k) = m ((c.tc : Thread Cert.KernelIdeal.nD Cert.KernelIdeal.τ).loc Cert.KernelIdeal.main_arg1) (ix1 k) := by
  have h : Cert.Norm.scale m c
      = shapeCast Cert.KernelIdeal.S1x1024 (m ((c.tc : Thread Cert.KernelIdeal.nD Cert.KernelIdeal.τ).loc Cert.KernelIdeal.main_arg1) : FVec Ideal Cert.KernelIdeal.S1024 .f32)
          Cert.KernelIdeal.Gen.shapeCasts_S1024_S1x1024 := rfl
  rw [h]
  pointwise

/-- The two programs compute the same function: the whole result is `Cert.Norm.whole` of the whole arrays, and every
    device's result is its block of it. -/
theorem algebraic : Cert.algebraic_KernelIdeal_ReferenceIdeal := by
  intro m ρ m' ρ' _ hagree
  refine ⟨Cert.Norm.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).2.2.trans ?_, (h.1 c).1, (h.1 c).2.1⟩)
      (Cert.Norm.run_main (F := Ideal) m ρ)
    exact Cert.Norm.outOf_eq_block _ _ (Cert.Norm.rows m) (Cert.Norm.scale m c) c
      (fun d => (Cert.Norm.V₁_arg0 m d).trans (hagree d).1)
      (fun k => (scale_apply m c k).trans ((congrFun (hagree c).2 (ix1 k)).trans (Cert.Norm.scale_block _ c k)))
  · exact (θ_run Cert.ReferenceIdeal.defs _ _).mono (fun _ h => h 0) (Cert.ReferenceIdeal.Value.run (F := Ideal) m' ρ')

/-- Everything claimed. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
